-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 128]⟩ ⟨2, ![2048, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048 : Shape := ⟨2, ![128, 2048]⟩
abbrev S2048x128 : Shape := ⟨2, ![2048, 128]⟩
abbrev S8x128x2048 : Shape := ⟨3, ![8, 128, 2048]⟩
abbrev S8x4 : Shape := ⟨2, ![8, 4]⟩
abbrev S_ : Shape := ⟨0, ![]⟩
abbrev S1x1 : Shape := ⟨2, ![1, 1]⟩
abbrev S1x32x2048 : Shape := ⟨3, ![1, 32, 2048]⟩
abbrev S32x2048 : Shape := ⟨2, ![32, 2048]⟩
abbrev S128x128 : Shape := ⟨2, ![128, 128]⟩
abbrev S1x128x2048 : Shape := ⟨3, ![1, 128, 2048]⟩
abbrev S1x64x2048 : Shape := ⟨3, ![1, 64, 2048]⟩
abbrev S64x2048 : Shape := ⟨2, ![64, 2048]⟩
abbrev S64x128 : Shape := ⟨2, ![64, 128]⟩

abbrev nBuf : Space → Nat
  | .hbm => 3
  | .vmem => 5
  | .smem => 0
  | _ => 0

abbrev bufTy : (tb : Table) → Fin (tcTables nBuf tb) → BufTy
  | .hbm, ⟨0, _⟩ => ⟨S128x2048, .bf16⟩
  | .hbm, ⟨1, _⟩ => ⟨S2048x128, .bf16⟩
  | .hbm, ⟨2, _⟩ => ⟨S2048x128, .f32⟩
  | .local _ .vmem, ⟨0, _⟩ => ⟨S128x2048, .bf16⟩
  | .local _ .vmem, ⟨1, _⟩ => ⟨S2048x128, .bf16⟩
  | .local _ .vmem, ⟨2, _⟩ => ⟨S2048x128, .f32⟩
  | .local _ .vmem, ⟨3, _⟩ => ⟨S8x128x2048, .bf16⟩
  | .local _ .vmem, ⟨4, _⟩ => ⟨S8x128x2048, .bf16⟩
  | _, _ => ⟨S128x2048, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_79 : BitVec 32 := 1#32
  let v94 : BitVec 32 := Scalar.muli v92 c1_i32_79
  let v95 : BitVec 32 := Scalar.addi c0_i32_80 v94
  v95.toNat
def k0_dev2 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_82 : BitVec 32 := 1#32
  let v96 : BitVec 32 := Scalar.muli v62 c1_i32_82
  let v97 : BitVec 32 := Scalar.addi c0_i32_83 v96
  v97.toNat
def k0_dev3 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_90 : BitVec 32 := 1#32
  let v98 : BitVec 32 := Scalar.muli v62 c1_i32_90
  let v99 : BitVec 32 := Scalar.addi c0_i32_91 v98
  v99.toNat
def k0_dev4 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_101 : BitVec 32 := 1#32
  let v107 : BitVec 32 := Scalar.muli v92 c1_i32_101
  let v108 : BitVec 32 := Scalar.addi c0_i32_102 v107
  v108.toNat
def k0_dev5 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_112 : BitVec 32 := 1#32
  let v116 : BitVec 32 := Scalar.muli v62 c1_i32_112
  let v117 : BitVec 32 := Scalar.addi c0_i32_113 v116
  v117.toNat
def k0_dev6 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_122 : BitVec 32 := 1#32
  let v125 : BitVec 32 := Scalar.muli v92 c1_i32_122
  let v126 : BitVec 32 := Scalar.addi c0_i32_123 v125
  v126.toNat
def k0_dev7 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_133 : BitVec 32 := 1#32
  let v134 : BitVec 32 := Scalar.muli v62 c1_i32_133
  let v135 : BitVec 32 := Scalar.addi c0_i32_134 v134
  v135.toNat
def k0_dev8 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_143 : BitVec 32 := 1#32
  let v143 : BitVec 32 := Scalar.muli v92 c1_i32_143
  let v144 : BitVec 32 := Scalar.addi c0_i32_144 v143
  v144.toNat
def k0_dev9 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_154 : BitVec 32 := 1#32
  let v152 : BitVec 32 := Scalar.muli v62 c1_i32_154
  let v153 : BitVec 32 := Scalar.addi c0_i32_155 v152
  v153.toNat
def k0_dev10 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_164 : BitVec 32 := 1#32
  let v161 : BitVec 32 := Scalar.muli v92 c1_i32_164
  let v162 : BitVec 32 := Scalar.addi c0_i32_165 v161
  v162.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v175 : BitVec 32 := Scalar.muli v2 c128_i32
  let v176 : Index := Scalar.indexCast v175
  let c0_173 : Index := 0#32
  ![v176.toNat, 0]
def k0_dev11 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_191 : BitVec 32 := 1#32
  let v185 : BitVec 32 := Scalar.muli v62 c1_i32_191
  let v186 : BitVec 32 := Scalar.addi c0_i32_192 v185
  v186.toNat
def k0_dev12 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_214 : BitVec 32 := 1#32
  let v202 : BitVec 32 := Scalar.muli v92 c1_i32_214
  let v203 : BitVec 32 := Scalar.addi c0_i32_215 v202
  v203.toNat
def k0_dev13 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_237 : BitVec 32 := 1#32
  let v219 : BitVec 32 := Scalar.muli v62 c1_i32_237
  let v220 : BitVec 32 := Scalar.addi c0_i32_238 v219
  v220.toNat
def k0_dev14 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_260 : BitVec 32 := 1#32
  let v236 : BitVec 32 := Scalar.muli v92 c1_i32_260
  let v237 : BitVec 32 := Scalar.addi c0_i32_261 v236
  v237.toNat
def k0_dev15 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_283 : BitVec 32 := 1#32
  let v253 : BitVec 32 := Scalar.muli v62 c1_i32_283
  let v254 : BitVec 32 := Scalar.addi c0_i32_284 v253
  v254.toNat
def k0_dev16 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_306 : BitVec 32 := 1#32
  let v270 : BitVec 32 := Scalar.muli v92 c1_i32_306
  let v271 : BitVec 32 := Scalar.addi c0_i32_307 v270
  v271.toNat
def k0_dev17 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_329 : BitVec 32 := 1#32
  let v287 : BitVec 32 := Scalar.muli v62 c1_i32_329
  let v288 : BitVec 32 := Scalar.addi c0_i32_330 v287
  v288.toNat
def k0_dev18 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_352 : BitVec 32 := 1#32
  let v304 : BitVec 32 := Scalar.muli v92 c1_i32_352
  let v305 : BitVec 32 := Scalar.addi c0_i32_353 v304
  v305.toNat
def k0_off2 (d0 : Dev nD) (c0_i32_358 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v314 : BitVec 32 := Scalar.subi v32 c0_i32_358
  let c1_i32_359 : BitVec 32 := 1#32
  let v315 : BitVec 32 := Scalar.subi v314 c1_i32_359
  let c16_i32_360 : BitVec 32 := 16#32
  let c0_i32_361 : BitVec 32 := 0#32
  let v316 : BitVec 1 := Scalar.cmpi .eq c16_i32_360 c0_i32_361
  let c1_i32_362 : BitVec 32 := 1#32
  let v317 : BitVec 32 := Scalar.select v316 c1_i32_362 c16_i32_360
  let v318 : BitVec 32 := Scalar.remsi v315 v317
  let c0_i32_364 : BitVec 32 := 0#32
  let v320 : BitVec 1 := Scalar.cmpi .slt v318 c0_i32_364
  let c0_i32_365 : BitVec 32 := 0#32
  let v321 : BitVec 1 := Scalar.cmpi .slt v317 c0_i32_365
  let v322 : BitVec 1 := Scalar.xori v320 v321
  let c0_i32_363 : BitVec 32 := 0#32
  let v319 : BitVec 1 := Scalar.cmpi .ne v318 c0_i32_363
  let v323 : BitVec 1 := Scalar.andi v322 v319
  let v324 : BitVec 32 := Scalar.addi v318 v317
  let v325 : BitVec 32 := Scalar.select v323 v324 v318
  let c15_i32_395 : BitVec 32 := 15#32
  let v354 : BitVec 1 := Scalar.cmpi .eq v325 c15_i32_395
  let c3_i32_396 : BitVec 32 := 3#32
  let c14_i32_393 : BitVec 32 := 14#32
  let v352 : BitVec 1 := Scalar.cmpi .eq v325 c14_i32_393
  let c7_i32_394 : BitVec 32 := 7#32
  let c13_i32_391 : BitVec 32 := 13#32
  let v350 : BitVec 1 := Scalar.cmpi .eq v325 c13_i32_391
  let c11_i32_392 : BitVec 32 := 11#32
  let c12_i32_389 : BitVec 32 := 12#32
  let v348 : BitVec 1 := Scalar.cmpi .eq v325 c12_i32_389
  let c15_i32_390 : BitVec 32 := 15#32
  let c11_i32_387 : BitVec 32 := 11#32
  let v346 : BitVec 1 := Scalar.cmpi .eq v325 c11_i32_387
  let c14_i32_388 : BitVec 32 := 14#32
  let c10_i32_385 : BitVec 32 := 10#32
  let v344 : BitVec 1 := Scalar.cmpi .eq v325 c10_i32_385
  let c10_i32_386 : BitVec 32 := 10#32
  let c9_i32_383 : BitVec 32 := 9#32
  let v342 : BitVec 1 := Scalar.cmpi .eq v325 c9_i32_383
  let c6_i32_384 : BitVec 32 := 6#32
  let c8_i32_381 : BitVec 32 := 8#32
  let v340 : BitVec 1 := Scalar.cmpi .eq v325 c8_i32_381
  let c2_i32_382 : BitVec 32 := 2#32
  let c7_i32_379 : BitVec 32 := 7#32
  let v338 : BitVec 1 := Scalar.cmpi .eq v325 c7_i32_379
  let c1_i32_380 : BitVec 32 := 1#32
  let c6_i32_377 : BitVec 32 := 6#32
  let v336 : BitVec 1 := Scalar.cmpi .eq v325 c6_i32_377
  let c5_i32_378 : BitVec 32 := 5#32
  let c5_i32_375 : BitVec 32 := 5#32
  let v334 : BitVec 1 := Scalar.cmpi .eq v325 c5_i32_375
  let c9_i32_376 : BitVec 32 := 9#32
  let c4_i32_373 : BitVec 32 := 4#32
  let v332 : BitVec 1 := Scalar.cmpi .eq v325 c4_i32_373
  let c13_i32_374 : BitVec 32 := 13#32
  let c3_i32_371 : BitVec 32 := 3#32
  let v330 : BitVec 1 := Scalar.cmpi .eq v325 c3_i32_371
  let c12_i32_372 : BitVec 32 := 12#32
  let c2_i32_369 : BitVec 32 := 2#32
  let v328 : BitVec 1 := Scalar.cmpi .eq v325 c2_i32_369
  let c8_i32_370 : BitVec 32 := 8#32
  let c1_i32_366 : BitVec 32 := 1#32
  let v326 : BitVec 1 := Scalar.cmpi .eq v325 c1_i32_366
  let c4_i32_367 : BitVec 32 := 4#32
  let c0_i32_368 : BitVec 32 := 0#32
  let v327 : BitVec 32 := Scalar.select v326 c4_i32_367 c0_i32_368
  let v329 : BitVec 32 := Scalar.select v328 c8_i32_370 v327
  let v331 : BitVec 32 := Scalar.select v330 c12_i32_372 v329
  let v333 : BitVec 32 := Scalar.select v332 c13_i32_374 v331
  let v335 : BitVec 32 := Scalar.select v334 c9_i32_376 v333
  let v337 : BitVec 32 := Scalar.select v336 c5_i32_378 v335
  let v339 : BitVec 32 := Scalar.select v338 c1_i32_380 v337
  let v341 : BitVec 32 := Scalar.select v340 c2_i32_382 v339
  let v343 : BitVec 32 := Scalar.select v342 c6_i32_384 v341
  let v345 : BitVec 32 := Scalar.select v344 c10_i32_386 v343
  let v347 : BitVec 32 := Scalar.select v346 c14_i32_388 v345
  let v349 : BitVec 32 := Scalar.select v348 c15_i32_390 v347
  let v351 : BitVec 32 := Scalar.select v350 c11_i32_392 v349
  let v353 : BitVec 32 := Scalar.select v352 c7_i32_394 v351
  let v355 : BitVec 32 := Scalar.select v354 c3_i32_396 v353
  let c128_i32_403 : BitVec 32 := 128#32
  let v361 : BitVec 32 := Scalar.muli v355 c128_i32_403
  let v362 : Index := Scalar.indexCast v361
  let c0_404 : Index := 0#32
  ![v362.toNat, 0]
def k0_off3 (d0 : Dev nD) (c0_i32_405 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v364 : BitVec 32 := Scalar.addi v32 c0_i32_405
  let c1_i32_406 : BitVec 32 := 1#32
  let v365 : BitVec 32 := Scalar.addi v364 c1_i32_406
  let c16_i32_407 : BitVec 32 := 16#32
  let c0_i32_408 : BitVec 32 := 0#32
  let v366 : BitVec 1 := Scalar.cmpi .eq c16_i32_407 c0_i32_408
  let c1_i32_409 : BitVec 32 := 1#32
  let v367 : BitVec 32 := Scalar.select v366 c1_i32_409 c16_i32_407
  let v368 : BitVec 32 := Scalar.remsi v365 v367
  let c0_i32_411 : BitVec 32 := 0#32
  let v370 : BitVec 1 := Scalar.cmpi .slt v368 c0_i32_411
  let c0_i32_412 : BitVec 32 := 0#32
  let v371 : BitVec 1 := Scalar.cmpi .slt v367 c0_i32_412
  let v372 : BitVec 1 := Scalar.xori v370 v371
  let c0_i32_410 : BitVec 32 := 0#32
  let v369 : BitVec 1 := Scalar.cmpi .ne v368 c0_i32_410
  let v373 : BitVec 1 := Scalar.andi v372 v369
  let v374 : BitVec 32 := Scalar.addi v368 v367
  let v375 : BitVec 32 := Scalar.select v373 v374 v368
  let c15_i32_442 : BitVec 32 := 15#32
  let v404 : BitVec 1 := Scalar.cmpi .eq v375 c15_i32_442
  let c3_i32_443 : BitVec 32 := 3#32
  let c14_i32_440 : BitVec 32 := 14#32
  let v402 : BitVec 1 := Scalar.cmpi .eq v375 c14_i32_440
  let c7_i32_441 : BitVec 32 := 7#32
  let c13_i32_438 : BitVec 32 := 13#32
  let v400 : BitVec 1 := Scalar.cmpi .eq v375 c13_i32_438
  let c11_i32_439 : BitVec 32 := 11#32
  let c12_i32_436 : BitVec 32 := 12#32
  let v398 : BitVec 1 := Scalar.cmpi .eq v375 c12_i32_436
  let c15_i32_437 : BitVec 32 := 15#32
  let c11_i32_434 : BitVec 32 := 11#32
  let v396 : BitVec 1 := Scalar.cmpi .eq v375 c11_i32_434
  let c14_i32_435 : BitVec 32 := 14#32
  let c10_i32_432 : BitVec 32 := 10#32
  let v394 : BitVec 1 := Scalar.cmpi .eq v375 c10_i32_432
  let c10_i32_433 : BitVec 32 := 10#32
  let c9_i32_430 : BitVec 32 := 9#32
  let v392 : BitVec 1 := Scalar.cmpi .eq v375 c9_i32_430
  let c6_i32_431 : BitVec 32 := 6#32
  let c8_i32_428 : BitVec 32 := 8#32
  let v390 : BitVec 1 := Scalar.cmpi .eq v375 c8_i32_428
  let c2_i32_429 : BitVec 32 := 2#32
  let c7_i32_426 : BitVec 32 := 7#32
  let v388 : BitVec 1 := Scalar.cmpi .eq v375 c7_i32_426
  let c1_i32_427 : BitVec 32 := 1#32
  let c6_i32_424 : BitVec 32 := 6#32
  let v386 : BitVec 1 := Scalar.cmpi .eq v375 c6_i32_424
  let c5_i32_425 : BitVec 32 := 5#32
  let c5_i32_422 : BitVec 32 := 5#32
  let v384 : BitVec 1 := Scalar.cmpi .eq v375 c5_i32_422
  let c9_i32_423 : BitVec 32 := 9#32
  let c4_i32_420 : BitVec 32 := 4#32
  let v382 : BitVec 1 := Scalar.cmpi .eq v375 c4_i32_420
  let c13_i32_421 : BitVec 32 := 13#32
  let c3_i32_418 : BitVec 32 := 3#32
  let v380 : BitVec 1 := Scalar.cmpi .eq v375 c3_i32_418
  let c12_i32_419 : BitVec 32 := 12#32
  let c2_i32_416 : BitVec 32 := 2#32
  let v378 : BitVec 1 := Scalar.cmpi .eq v375 c2_i32_416
  let c8_i32_417 : BitVec 32 := 8#32
  let c1_i32_413 : BitVec 32 := 1#32
  let v376 : BitVec 1 := Scalar.cmpi .eq v375 c1_i32_413
  let c4_i32_414 : BitVec 32 := 4#32
  let c0_i32_415 : BitVec 32 := 0#32
  let v377 : BitVec 32 := Scalar.select v376 c4_i32_414 c0_i32_415
  let v379 : BitVec 32 := Scalar.select v378 c8_i32_417 v377
  let v381 : BitVec 32 := Scalar.select v380 c12_i32_419 v379
  let v383 : BitVec 32 := Scalar.select v382 c13_i32_421 v381
  let v385 : BitVec 32 := Scalar.select v384 c9_i32_423 v383
  let v387 : BitVec 32 := Scalar.select v386 c5_i32_425 v385
  let v389 : BitVec 32 := Scalar.select v388 c1_i32_427 v387
  let v391 : BitVec 32 := Scalar.select v390 c2_i32_429 v389
  let v393 : BitVec 32 := Scalar.select v392 c6_i32_431 v391
  let v395 : BitVec 32 := Scalar.select v394 c10_i32_433 v393
  let v397 : BitVec 32 := Scalar.select v396 c14_i32_435 v395
  let v399 : BitVec 32 := Scalar.select v398 c15_i32_437 v397
  let v401 : BitVec 32 := Scalar.select v400 c11_i32_439 v399
  let v403 : BitVec 32 := Scalar.select v402 c7_i32_441 v401
  let v405 : BitVec 32 := Scalar.select v404 c3_i32_443 v403
  let c128_i32_450 : BitVec 32 := 128#32
  let v411 : BitVec 32 := Scalar.muli v405 c128_i32_450
  let v412 : Index := Scalar.indexCast v411
  let c0_451 : Index := 0#32
  ![v412.toNat, 0]
def k0_dev19 (d0 : Dev nD) : Nat :=
  let c0_i32_471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_470 : BitVec 32 := 1#32
  let v422 : BitVec 32 := Scalar.muli v62 c1_i32_470
  let v423 : BitVec 32 := Scalar.addi c0_i32_471 v422
  v423.toNat
def k0_dev20 (d0 : Dev nD) : Nat :=
  let c0_i32_495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_494 : BitVec 32 := 1#32
  let v440 : BitVec 32 := Scalar.muli v92 c1_i32_494
  let v441 : BitVec 32 := Scalar.addi c0_i32_495 v440
  v441.toNat
def k0_dev21 (d0 : Dev nD) : Nat :=
  let c0_i32_519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_518 : BitVec 32 := 1#32
  let v458 : BitVec 32 := Scalar.muli v62 c1_i32_518
  let v459 : BitVec 32 := Scalar.addi c0_i32_519 v458
  v459.toNat
def k0_dev22 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_542 : BitVec 32 := 1#32
  let v476 : BitVec 32 := Scalar.muli v92 c1_i32_542
  let v477 : BitVec 32 := Scalar.addi c0_i32_543 v476
  v477.toNat
def k0_dev23 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_566 : BitVec 32 := 1#32
  let v494 : BitVec 32 := Scalar.muli v62 c1_i32_566
  let v495 : BitVec 32 := Scalar.addi c0_i32_567 v494
  v495.toNat
def k0_dev24 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_590 : BitVec 32 := 1#32
  let v512 : BitVec 32 := Scalar.muli v92 c1_i32_590
  let v513 : BitVec 32 := Scalar.addi c0_i32_591 v512
  v513.toNat
def k0_dev25 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_614 : BitVec 32 := 1#32
  let v530 : BitVec 32 := Scalar.muli v62 c1_i32_614
  let v531 : BitVec 32 := Scalar.addi c0_i32_615 v530
  v531.toNat
def k0_dev26 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_638 : BitVec 32 := 1#32
  let v548 : BitVec 32 := Scalar.muli v92 c1_i32_638
  let v549 : BitVec 32 := Scalar.addi c0_i32_639 v548
  v549.toNat
def k0_dev27 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_755 : BitVec 32 := 1#32
  let v666 : BitVec 32 := Scalar.muli v62 c1_i32_755
  let v667 : BitVec 32 := Scalar.addi c0_i32_756 v666
  v667.toNat
def k0_dev28 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_779 : BitVec 32 := 1#32
  let v684 : BitVec 32 := Scalar.muli v92 c1_i32_779
  let v685 : BitVec 32 := Scalar.addi c0_i32_780 v684
  v685.toNat
def k0_dev29 (d0 : Dev nD) : Nat :=
  let c0_i32_804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_803 : BitVec 32 := 1#32
  let v702 : BitVec 32 := Scalar.muli v62 c1_i32_803
  let v703 : BitVec 32 := Scalar.addi c0_i32_804 v702
  v703.toNat
def k0_dev30 (d0 : Dev nD) : Nat :=
  let c0_i32_828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_827 : BitVec 32 := 1#32
  let v720 : BitVec 32 := Scalar.muli v92 c1_i32_827
  let v721 : BitVec 32 := Scalar.addi c0_i32_828 v720
  v721.toNat
def k0_dev31 (d0 : Dev nD) : Nat :=
  let c0_i32_852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_851 : BitVec 32 := 1#32
  let v738 : BitVec 32 := Scalar.muli v62 c1_i32_851
  let v739 : BitVec 32 := Scalar.addi c0_i32_852 v738
  v739.toNat
def k0_dev32 (d0 : Dev nD) : Nat :=
  let c0_i32_876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_875 : BitVec 32 := 1#32
  let v756 : BitVec 32 := Scalar.muli v92 c1_i32_875
  let v757 : BitVec 32 := Scalar.addi c0_i32_876 v756
  v757.toNat
def k0_dev33 (d0 : Dev nD) : Nat :=
  let c0_i32_900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_899 : BitVec 32 := 1#32
  let v774 : BitVec 32 := Scalar.muli v62 c1_i32_899
  let v775 : BitVec 32 := Scalar.addi c0_i32_900 v774
  v775.toNat
def k0_dev34 (d0 : Dev nD) : Nat :=
  let c0_i32_924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_923 : BitVec 32 := 1#32
  let v792 : BitVec 32 := Scalar.muli v92 c1_i32_923
  let v793 : BitVec 32 := Scalar.addi c0_i32_924 v792
  v793.toNat
def k0_dev35 (d0 : Dev nD) : Nat :=
  let c0_i32_1041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_1040 : BitVec 32 := 1#32
  let v910 : BitVec 32 := Scalar.muli v62 c1_i32_1040
  let v911 : BitVec 32 := Scalar.addi c0_i32_1041 v910
  v911.toNat
def k0_dev36 (d0 : Dev nD) : Nat :=
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_1064 : BitVec 32 := 1#32
  let v928 : BitVec 32 := Scalar.muli v92 c1_i32_1064
  let v929 : BitVec 32 := Scalar.addi c0_i32_1065 v928
  v929.toNat
def k0_dev37 (d0 : Dev nD) : Nat :=
  let c0_i32_1089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_1088 : BitVec 32 := 1#32
  let v946 : BitVec 32 := Scalar.muli v62 c1_i32_1088
  let v947 : BitVec 32 := Scalar.addi c0_i32_1089 v946
  v947.toNat
def k0_dev38 (d0 : Dev nD) : Nat :=
  let c0_i32_1113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_1112 : BitVec 32 := 1#32
  let v964 : BitVec 32 := Scalar.muli v92 c1_i32_1112
  let v965 : BitVec 32 := Scalar.addi c0_i32_1113 v964
  v965.toNat
def k0_dev39 (d0 : Dev nD) : Nat :=
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_1136 : BitVec 32 := 1#32
  let v982 : BitVec 32 := Scalar.muli v62 c1_i32_1136
  let v983 : BitVec 32 := Scalar.addi c0_i32_1137 v982
  v983.toNat
def k0_dev40 (d0 : Dev nD) : Nat :=
  let c0_i32_1161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_1160 : BitVec 32 := 1#32
  let v1000 : BitVec 32 := Scalar.muli v92 c1_i32_1160
  let v1001 : BitVec 32 := Scalar.addi c0_i32_1161 v1000
  v1001.toNat
def k0_dev41 (d0 : Dev nD) : Nat :=
  let c0_i32_1185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_1184 : BitVec 32 := 1#32
  let v1018 : BitVec 32 := Scalar.muli v62 c1_i32_1184
  let v1019 : BitVec 32 := Scalar.addi c0_i32_1185 v1018
  v1019.toNat
def k0_dev42 (d0 : Dev nD) : Nat :=
  let c0_i32_1209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_1208 : BitVec 32 := 1#32
  let v1036 : BitVec 32 := Scalar.muli v92 c1_i32_1208
  let v1037 : BitVec 32 := Scalar.addi c0_i32_1209 v1036
  v1037.toNat
def k0_dev43 (d0 : Dev nD) : Nat :=
  let c0_i32_1326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_1325 : BitVec 32 := 1#32
  let v1154 : BitVec 32 := Scalar.muli v62 c1_i32_1325
  let v1155 : BitVec 32 := Scalar.addi c0_i32_1326 v1154
  v1155.toNat
def k0_dev44 (d0 : Dev nD) : Nat :=
  let c0_i32_1350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_1349 : BitVec 32 := 1#32
  let v1172 : BitVec 32 := Scalar.muli v92 c1_i32_1349
  let v1173 : BitVec 32 := Scalar.addi c0_i32_1350 v1172
  v1173.toNat
def k0_dev45 (d0 : Dev nD) : Nat :=
  let c0_i32_1374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_1373 : BitVec 32 := 1#32
  let v1190 : BitVec 32 := Scalar.muli v62 c1_i32_1373
  let v1191 : BitVec 32 := Scalar.addi c0_i32_1374 v1190
  v1191.toNat
def k0_dev46 (d0 : Dev nD) : Nat :=
  let c0_i32_1398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_1397 : BitVec 32 := 1#32
  let v1208 : BitVec 32 := Scalar.muli v92 c1_i32_1397
  let v1209 : BitVec 32 := Scalar.addi c0_i32_1398 v1208
  v1209.toNat
def k0_dev47 (d0 : Dev nD) : Nat :=
  let c0_i32_1422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_1421 : BitVec 32 := 1#32
  let v1226 : BitVec 32 := Scalar.muli v62 c1_i32_1421
  let v1227 : BitVec 32 := Scalar.addi c0_i32_1422 v1226
  v1227.toNat
def k0_dev48 (d0 : Dev nD) : Nat :=
  let c0_i32_1446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_1445 : BitVec 32 := 1#32
  let v1244 : BitVec 32 := Scalar.muli v92 c1_i32_1445
  let v1245 : BitVec 32 := Scalar.addi c0_i32_1446 v1244
  v1245.toNat
def k0_dev49 (d0 : Dev nD) : Nat :=
  let c0_i32_1470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_1469 : BitVec 32 := 1#32
  let v1262 : BitVec 32 := Scalar.muli v62 c1_i32_1469
  let v1263 : BitVec 32 := Scalar.addi c0_i32_1470 v1262
  v1263.toNat
def k0_dev50 (d0 : Dev nD) : Nat :=
  let c0_i32_1494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_1493 : BitVec 32 := 1#32
  let v1280 : BitVec 32 := Scalar.muli v92 c1_i32_1493
  let v1281 : BitVec 32 := Scalar.addi c0_i32_1494 v1280
  v1281.toNat
def k0_dev51 (d0 : Dev nD) : Nat :=
  let c0_i32_1611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_1610 : BitVec 32 := 1#32
  let v1398 : BitVec 32 := Scalar.muli v62 c1_i32_1610
  let v1399 : BitVec 32 := Scalar.addi c0_i32_1611 v1398
  v1399.toNat
def k0_dev52 (d0 : Dev nD) : Nat :=
  let c0_i32_1635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_1634 : BitVec 32 := 1#32
  let v1416 : BitVec 32 := Scalar.muli v92 c1_i32_1634
  let v1417 : BitVec 32 := Scalar.addi c0_i32_1635 v1416
  v1417.toNat
def k0_dev53 (d0 : Dev nD) : Nat :=
  let c0_i32_1659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_1658 : BitVec 32 := 1#32
  let v1434 : BitVec 32 := Scalar.muli v62 c1_i32_1658
  let v1435 : BitVec 32 := Scalar.addi c0_i32_1659 v1434
  v1435.toNat
def k0_dev54 (d0 : Dev nD) : Nat :=
  let c0_i32_1683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_1682 : BitVec 32 := 1#32
  let v1452 : BitVec 32 := Scalar.muli v92 c1_i32_1682
  let v1453 : BitVec 32 := Scalar.addi c0_i32_1683 v1452
  v1453.toNat
def k0_dev55 (d0 : Dev nD) : Nat :=
  let c0_i32_1707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_1706 : BitVec 32 := 1#32
  let v1470 : BitVec 32 := Scalar.muli v62 c1_i32_1706
  let v1471 : BitVec 32 := Scalar.addi c0_i32_1707 v1470
  v1471.toNat
def k0_dev56 (d0 : Dev nD) : Nat :=
  let c0_i32_1731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_1730 : BitVec 32 := 1#32
  let v1488 : BitVec 32 := Scalar.muli v92 c1_i32_1730
  let v1489 : BitVec 32 := Scalar.addi c0_i32_1731 v1488
  v1489.toNat
def k0_dev57 (d0 : Dev nD) : Nat :=
  let c0_i32_1755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_1754 : BitVec 32 := 1#32
  let v1506 : BitVec 32 := Scalar.muli v62 c1_i32_1754
  let v1507 : BitVec 32 := Scalar.addi c0_i32_1755 v1506
  v1507.toNat
def k0_dev58 (d0 : Dev nD) : Nat :=
  let c0_i32_1779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_1778 : BitVec 32 := 1#32
  let v1524 : BitVec 32 := Scalar.muli v92 c1_i32_1778
  let v1525 : BitVec 32 := Scalar.addi c0_i32_1779 v1524
  v1525.toNat
def k0_dev59 (d0 : Dev nD) : Nat :=
  let c0_i32_1896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_1895 : BitVec 32 := 1#32
  let v1642 : BitVec 32 := Scalar.muli v62 c1_i32_1895
  let v1643 : BitVec 32 := Scalar.addi c0_i32_1896 v1642
  v1643.toNat
def k0_dev60 (d0 : Dev nD) : Nat :=
  let c0_i32_1932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_45 : BitVec 32 := 15#32
  let v61 : BitVec 1 := Scalar.cmpi .eq v32 c15_i32_45
  let c0_i32_46 : BitVec 32 := 0#32
  let c14_i32_43 : BitVec 32 := 14#32
  let v59 : BitVec 1 := Scalar.cmpi .eq v32 c14_i32_43
  let c3_i32_44 : BitVec 32 := 3#32
  let c13_i32_41 : BitVec 32 := 13#32
  let v57 : BitVec 1 := Scalar.cmpi .eq v32 c13_i32_41
  let c7_i32_42 : BitVec 32 := 7#32
  let c12_i32_39 : BitVec 32 := 12#32
  let v55 : BitVec 1 := Scalar.cmpi .eq v32 c12_i32_39
  let c11_i32_40 : BitVec 32 := 11#32
  let c11_i32_37 : BitVec 32 := 11#32
  let v53 : BitVec 1 := Scalar.cmpi .eq v32 c11_i32_37
  let c15_i32_38 : BitVec 32 := 15#32
  let c10_i32_35 : BitVec 32 := 10#32
  let v51 : BitVec 1 := Scalar.cmpi .eq v32 c10_i32_35
  let c14_i32_36 : BitVec 32 := 14#32
  let c9_i32_33 : BitVec 32 := 9#32
  let v49 : BitVec 1 := Scalar.cmpi .eq v32 c9_i32_33
  let c10_i32_34 : BitVec 32 := 10#32
  let c8_i32_31 : BitVec 32 := 8#32
  let v47 : BitVec 1 := Scalar.cmpi .eq v32 c8_i32_31
  let c6_i32_32 : BitVec 32 := 6#32
  let c7_i32_29 : BitVec 32 := 7#32
  let v45 : BitVec 1 := Scalar.cmpi .eq v32 c7_i32_29
  let c2_i32_30 : BitVec 32 := 2#32
  let c6_i32_27 : BitVec 32 := 6#32
  let v43 : BitVec 1 := Scalar.cmpi .eq v32 c6_i32_27
  let c1_i32_28 : BitVec 32 := 1#32
  let c5_i32_25 : BitVec 32 := 5#32
  let v41 : BitVec 1 := Scalar.cmpi .eq v32 c5_i32_25
  let c5_i32_26 : BitVec 32 := 5#32
  let c4_i32_23 : BitVec 32 := 4#32
  let v39 : BitVec 1 := Scalar.cmpi .eq v32 c4_i32_23
  let c9_i32_24 : BitVec 32 := 9#32
  let c3_i32_21 : BitVec 32 := 3#32
  let v37 : BitVec 1 := Scalar.cmpi .eq v32 c3_i32_21
  let c13_i32_22 : BitVec 32 := 13#32
  let c2_i32_19 : BitVec 32 := 2#32
  let v35 : BitVec 1 := Scalar.cmpi .eq v32 c2_i32_19
  let c12_i32_20 : BitVec 32 := 12#32
  let c1_i32_16 : BitVec 32 := 1#32
  let v33 : BitVec 1 := Scalar.cmpi .eq v32 c1_i32_16
  let c8_i32_17 : BitVec 32 := 8#32
  let c4_i32_18 : BitVec 32 := 4#32
  let v34 : BitVec 32 := Scalar.select v33 c8_i32_17 c4_i32_18
  let v36 : BitVec 32 := Scalar.select v35 c12_i32_20 v34
  let v38 : BitVec 32 := Scalar.select v37 c13_i32_22 v36
  let v40 : BitVec 32 := Scalar.select v39 c9_i32_24 v38
  let v42 : BitVec 32 := Scalar.select v41 c5_i32_26 v40
  let v44 : BitVec 32 := Scalar.select v43 c1_i32_28 v42
  let v46 : BitVec 32 := Scalar.select v45 c2_i32_30 v44
  let v48 : BitVec 32 := Scalar.select v47 c6_i32_32 v46
  let v50 : BitVec 32 := Scalar.select v49 c10_i32_34 v48
  let v52 : BitVec 32 := Scalar.select v51 c14_i32_36 v50
  let v54 : BitVec 32 := Scalar.select v53 c15_i32_38 v52
  let v56 : BitVec 32 := Scalar.select v55 c11_i32_40 v54
  let v58 : BitVec 32 := Scalar.select v57 c7_i32_42 v56
  let v60 : BitVec 32 := Scalar.select v59 c3_i32_44 v58
  let v62 : BitVec 32 := Scalar.select v61 c0_i32_46 v60
  let c1_i32_1931 : BitVec 32 := 1#32
  let v1668 : BitVec 32 := Scalar.muli v62 c1_i32_1931
  let v1669 : BitVec 32 := Scalar.addi c0_i32_1932 v1668
  v1669.toNat
def k0_dev61 (d0 : Dev nD) : Nat :=
  let c0_i32_1980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_1979 : BitVec 32 := 1#32
  let v1702 : BitVec 32 := Scalar.muli v92 c1_i32_1979
  let v1703 : BitVec 32 := Scalar.addi c0_i32_1980 v1702
  v1703.toNat
def k0_dev62 (d0 : Dev nD) : Nat :=
  let c0_i32_2016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c15_i32_76 : BitVec 32 := 15#32
  let v91 : BitVec 1 := Scalar.cmpi .eq v32 c15_i32_76
  let c7_i32_77 : BitVec 32 := 7#32
  let c14_i32_74 : BitVec 32 := 14#32
  let v89 : BitVec 1 := Scalar.cmpi .eq v32 c14_i32_74
  let c11_i32_75 : BitVec 32 := 11#32
  let c13_i32_72 : BitVec 32 := 13#32
  let v87 : BitVec 1 := Scalar.cmpi .eq v32 c13_i32_72
  let c15_i32_73 : BitVec 32 := 15#32
  let c12_i32_70 : BitVec 32 := 12#32
  let v85 : BitVec 1 := Scalar.cmpi .eq v32 c12_i32_70
  let c14_i32_71 : BitVec 32 := 14#32
  let c11_i32_68 : BitVec 32 := 11#32
  let v83 : BitVec 1 := Scalar.cmpi .eq v32 c11_i32_68
  let c10_i32_69 : BitVec 32 := 10#32
  let c10_i32_66 : BitVec 32 := 10#32
  let v81 : BitVec 1 := Scalar.cmpi .eq v32 c10_i32_66
  let c6_i32_67 : BitVec 32 := 6#32
  let c9_i32_64 : BitVec 32 := 9#32
  let v79 : BitVec 1 := Scalar.cmpi .eq v32 c9_i32_64
  let c2_i32_65 : BitVec 32 := 2#32
  let c8_i32_62 : BitVec 32 := 8#32
  let v77 : BitVec 1 := Scalar.cmpi .eq v32 c8_i32_62
  let c1_i32_63 : BitVec 32 := 1#32
  let c7_i32_60 : BitVec 32 := 7#32
  let v75 : BitVec 1 := Scalar.cmpi .eq v32 c7_i32_60
  let c5_i32_61 : BitVec 32 := 5#32
  let c6_i32_58 : BitVec 32 := 6#32
  let v73 : BitVec 1 := Scalar.cmpi .eq v32 c6_i32_58
  let c9_i32_59 : BitVec 32 := 9#32
  let c5_i32_56 : BitVec 32 := 5#32
  let v71 : BitVec 1 := Scalar.cmpi .eq v32 c5_i32_56
  let c13_i32_57 : BitVec 32 := 13#32
  let c4_i32_54 : BitVec 32 := 4#32
  let v69 : BitVec 1 := Scalar.cmpi .eq v32 c4_i32_54
  let c12_i32_55 : BitVec 32 := 12#32
  let c3_i32_52 : BitVec 32 := 3#32
  let v67 : BitVec 1 := Scalar.cmpi .eq v32 c3_i32_52
  let c8_i32_53 : BitVec 32 := 8#32
  let c2_i32_50 : BitVec 32 := 2#32
  let v65 : BitVec 1 := Scalar.cmpi .eq v32 c2_i32_50
  let c4_i32_51 : BitVec 32 := 4#32
  let c1_i32_47 : BitVec 32 := 1#32
  let v63 : BitVec 1 := Scalar.cmpi .eq v32 c1_i32_47
  let c0_i32_48 : BitVec 32 := 0#32
  let c3_i32_49 : BitVec 32 := 3#32
  let v64 : BitVec 32 := Scalar.select v63 c0_i32_48 c3_i32_49
  let v66 : BitVec 32 := Scalar.select v65 c4_i32_51 v64
  let v68 : BitVec 32 := Scalar.select v67 c8_i32_53 v66
  let v70 : BitVec 32 := Scalar.select v69 c12_i32_55 v68
  let v72 : BitVec 32 := Scalar.select v71 c13_i32_57 v70
  let v74 : BitVec 32 := Scalar.select v73 c9_i32_59 v72
  let v76 : BitVec 32 := Scalar.select v75 c5_i32_61 v74
  let v78 : BitVec 32 := Scalar.select v77 c1_i32_63 v76
  let v80 : BitVec 32 := Scalar.select v79 c2_i32_65 v78
  let v82 : BitVec 32 := Scalar.select v81 c6_i32_67 v80
  let v84 : BitVec 32 := Scalar.select v83 c10_i32_69 v82
  let v86 : BitVec 32 := Scalar.select v85 c14_i32_71 v84
  let v88 : BitVec 32 := Scalar.select v87 c15_i32_73 v86
  let v90 : BitVec 32 := Scalar.select v89 c11_i32_75 v88
  let v92 : BitVec 32 := Scalar.select v91 c7_i32_77 v90
  let c1_i32_2015 : BitVec 32 := 1#32
  let v1728 : BitVec 32 := Scalar.muli v92 c1_i32_2015
  let v1729 : BitVec 32 := Scalar.addi c0_i32_2016 v1728
  v1729.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c8_i32_2162 : BitVec 32 := 8#32
  let v1870 : BitVec 32 := Scalar.addi v32 c8_i32_2162
  let c16_i32_2163 : BitVec 32 := 16#32
  let c0_i32_2164 : BitVec 32 := 0#32
  let v1871 : BitVec 1 := Scalar.cmpi .eq c16_i32_2163 c0_i32_2164
  let c1_i32_2165 : BitVec 32 := 1#32
  let v1872 : BitVec 32 := Scalar.select v1871 c1_i32_2165 c16_i32_2163
  let v1873 : BitVec 32 := Scalar.remsi v1870 v1872
  let c0_i32_2167 : BitVec 32 := 0#32
  let v1875 : BitVec 1 := Scalar.cmpi .slt v1873 c0_i32_2167
  let c0_i32_2168 : BitVec 32 := 0#32
  let v1876 : BitVec 1 := Scalar.cmpi .slt v1872 c0_i32_2168
  let v1877 : BitVec 1 := Scalar.xori v1875 v1876
  let c0_i32_2166 : BitVec 32 := 0#32
  let v1874 : BitVec 1 := Scalar.cmpi .ne v1873 c0_i32_2166
  let v1878 : BitVec 1 := Scalar.andi v1877 v1874
  let v1879 : BitVec 32 := Scalar.addi v1873 v1872
  let v1880 : BitVec 32 := Scalar.select v1878 v1879 v1873
  let c15_i32_2198 : BitVec 32 := 15#32
  let v1909 : BitVec 1 := Scalar.cmpi .eq v1880 c15_i32_2198
  let c3_i32_2199 : BitVec 32 := 3#32
  let c14_i32_2196 : BitVec 32 := 14#32
  let v1907 : BitVec 1 := Scalar.cmpi .eq v1880 c14_i32_2196
  let c7_i32_2197 : BitVec 32 := 7#32
  let c13_i32_2194 : BitVec 32 := 13#32
  let v1905 : BitVec 1 := Scalar.cmpi .eq v1880 c13_i32_2194
  let c11_i32_2195 : BitVec 32 := 11#32
  let c12_i32_2192 : BitVec 32 := 12#32
  let v1903 : BitVec 1 := Scalar.cmpi .eq v1880 c12_i32_2192
  let c15_i32_2193 : BitVec 32 := 15#32
  let c11_i32_2190 : BitVec 32 := 11#32
  let v1901 : BitVec 1 := Scalar.cmpi .eq v1880 c11_i32_2190
  let c14_i32_2191 : BitVec 32 := 14#32
  let c10_i32_2188 : BitVec 32 := 10#32
  let v1899 : BitVec 1 := Scalar.cmpi .eq v1880 c10_i32_2188
  let c10_i32_2189 : BitVec 32 := 10#32
  let c9_i32_2186 : BitVec 32 := 9#32
  let v1897 : BitVec 1 := Scalar.cmpi .eq v1880 c9_i32_2186
  let c6_i32_2187 : BitVec 32 := 6#32
  let c8_i32_2184 : BitVec 32 := 8#32
  let v1895 : BitVec 1 := Scalar.cmpi .eq v1880 c8_i32_2184
  let c2_i32_2185 : BitVec 32 := 2#32
  let c7_i32_2182 : BitVec 32 := 7#32
  let v1893 : BitVec 1 := Scalar.cmpi .eq v1880 c7_i32_2182
  let c1_i32_2183 : BitVec 32 := 1#32
  let c6_i32_2180 : BitVec 32 := 6#32
  let v1891 : BitVec 1 := Scalar.cmpi .eq v1880 c6_i32_2180
  let c5_i32_2181 : BitVec 32 := 5#32
  let c5_i32_2178 : BitVec 32 := 5#32
  let v1889 : BitVec 1 := Scalar.cmpi .eq v1880 c5_i32_2178
  let c9_i32_2179 : BitVec 32 := 9#32
  let c4_i32_2176 : BitVec 32 := 4#32
  let v1887 : BitVec 1 := Scalar.cmpi .eq v1880 c4_i32_2176
  let c13_i32_2177 : BitVec 32 := 13#32
  let c3_i32_2174 : BitVec 32 := 3#32
  let v1885 : BitVec 1 := Scalar.cmpi .eq v1880 c3_i32_2174
  let c12_i32_2175 : BitVec 32 := 12#32
  let c2_i32_2172 : BitVec 32 := 2#32
  let v1883 : BitVec 1 := Scalar.cmpi .eq v1880 c2_i32_2172
  let c8_i32_2173 : BitVec 32 := 8#32
  let c1_i32_2169 : BitVec 32 := 1#32
  let v1881 : BitVec 1 := Scalar.cmpi .eq v1880 c1_i32_2169
  let c4_i32_2170 : BitVec 32 := 4#32
  let c0_i32_2171 : BitVec 32 := 0#32
  let v1882 : BitVec 32 := Scalar.select v1881 c4_i32_2170 c0_i32_2171
  let v1884 : BitVec 32 := Scalar.select v1883 c8_i32_2173 v1882
  let v1886 : BitVec 32 := Scalar.select v1885 c12_i32_2175 v1884
  let v1888 : BitVec 32 := Scalar.select v1887 c13_i32_2177 v1886
  let v1890 : BitVec 32 := Scalar.select v1889 c9_i32_2179 v1888
  let v1892 : BitVec 32 := Scalar.select v1891 c5_i32_2181 v1890
  let v1894 : BitVec 32 := Scalar.select v1893 c1_i32_2183 v1892
  let v1896 : BitVec 32 := Scalar.select v1895 c2_i32_2185 v1894
  let v1898 : BitVec 32 := Scalar.select v1897 c6_i32_2187 v1896
  let v1900 : BitVec 32 := Scalar.select v1899 c10_i32_2189 v1898
  let v1902 : BitVec 32 := Scalar.select v1901 c14_i32_2191 v1900
  let v1904 : BitVec 32 := Scalar.select v1903 c15_i32_2193 v1902
  let v1906 : BitVec 32 := Scalar.select v1905 c11_i32_2195 v1904
  let v1908 : BitVec 32 := Scalar.select v1907 c7_i32_2197 v1906
  let v1910 : BitVec 32 := Scalar.select v1909 c3_i32_2199 v1908
  let c128_i32_2205 : BitVec 32 := 128#32
  let v1916 : BitVec 32 := Scalar.muli v1910 c128_i32_2205
  let v1917 : Index := Scalar.indexCast v1916
  let c0_2206 : Index := 0#32
  ![v1917.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c8_i32_2162 : BitVec 32 := 8#32
  let v1870 : BitVec 32 := Scalar.addi v32 c8_i32_2162
  let c16_i32_2163 : BitVec 32 := 16#32
  let c0_i32_2164 : BitVec 32 := 0#32
  let v1871 : BitVec 1 := Scalar.cmpi .eq c16_i32_2163 c0_i32_2164
  let c1_i32_2165 : BitVec 32 := 1#32
  let v1872 : BitVec 32 := Scalar.select v1871 c1_i32_2165 c16_i32_2163
  let v1873 : BitVec 32 := Scalar.remsi v1870 v1872
  let c0_i32_2167 : BitVec 32 := 0#32
  let v1875 : BitVec 1 := Scalar.cmpi .slt v1873 c0_i32_2167
  let c0_i32_2168 : BitVec 32 := 0#32
  let v1876 : BitVec 1 := Scalar.cmpi .slt v1872 c0_i32_2168
  let v1877 : BitVec 1 := Scalar.xori v1875 v1876
  let c0_i32_2166 : BitVec 32 := 0#32
  let v1874 : BitVec 1 := Scalar.cmpi .ne v1873 c0_i32_2166
  let v1878 : BitVec 1 := Scalar.andi v1877 v1874
  let v1879 : BitVec 32 := Scalar.addi v1873 v1872
  let v1880 : BitVec 32 := Scalar.select v1878 v1879 v1873
  let c15_i32_2198 : BitVec 32 := 15#32
  let v1909 : BitVec 1 := Scalar.cmpi .eq v1880 c15_i32_2198
  let c3_i32_2199 : BitVec 32 := 3#32
  let c14_i32_2196 : BitVec 32 := 14#32
  let v1907 : BitVec 1 := Scalar.cmpi .eq v1880 c14_i32_2196
  let c7_i32_2197 : BitVec 32 := 7#32
  let c13_i32_2194 : BitVec 32 := 13#32
  let v1905 : BitVec 1 := Scalar.cmpi .eq v1880 c13_i32_2194
  let c11_i32_2195 : BitVec 32 := 11#32
  let c12_i32_2192 : BitVec 32 := 12#32
  let v1903 : BitVec 1 := Scalar.cmpi .eq v1880 c12_i32_2192
  let c15_i32_2193 : BitVec 32 := 15#32
  let c11_i32_2190 : BitVec 32 := 11#32
  let v1901 : BitVec 1 := Scalar.cmpi .eq v1880 c11_i32_2190
  let c14_i32_2191 : BitVec 32 := 14#32
  let c10_i32_2188 : BitVec 32 := 10#32
  let v1899 : BitVec 1 := Scalar.cmpi .eq v1880 c10_i32_2188
  let c10_i32_2189 : BitVec 32 := 10#32
  let c9_i32_2186 : BitVec 32 := 9#32
  let v1897 : BitVec 1 := Scalar.cmpi .eq v1880 c9_i32_2186
  let c6_i32_2187 : BitVec 32 := 6#32
  let c8_i32_2184 : BitVec 32 := 8#32
  let v1895 : BitVec 1 := Scalar.cmpi .eq v1880 c8_i32_2184
  let c2_i32_2185 : BitVec 32 := 2#32
  let c7_i32_2182 : BitVec 32 := 7#32
  let v1893 : BitVec 1 := Scalar.cmpi .eq v1880 c7_i32_2182
  let c1_i32_2183 : BitVec 32 := 1#32
  let c6_i32_2180 : BitVec 32 := 6#32
  let v1891 : BitVec 1 := Scalar.cmpi .eq v1880 c6_i32_2180
  let c5_i32_2181 : BitVec 32 := 5#32
  let c5_i32_2178 : BitVec 32 := 5#32
  let v1889 : BitVec 1 := Scalar.cmpi .eq v1880 c5_i32_2178
  let c9_i32_2179 : BitVec 32 := 9#32
  let c4_i32_2176 : BitVec 32 := 4#32
  let v1887 : BitVec 1 := Scalar.cmpi .eq v1880 c4_i32_2176
  let c13_i32_2177 : BitVec 32 := 13#32
  let c3_i32_2174 : BitVec 32 := 3#32
  let v1885 : BitVec 1 := Scalar.cmpi .eq v1880 c3_i32_2174
  let c12_i32_2175 : BitVec 32 := 12#32
  let c2_i32_2172 : BitVec 32 := 2#32
  let v1883 : BitVec 1 := Scalar.cmpi .eq v1880 c2_i32_2172
  let c8_i32_2173 : BitVec 32 := 8#32
  let c1_i32_2169 : BitVec 32 := 1#32
  let v1881 : BitVec 1 := Scalar.cmpi .eq v1880 c1_i32_2169
  let c4_i32_2170 : BitVec 32 := 4#32
  let c0_i32_2171 : BitVec 32 := 0#32
  let v1882 : BitVec 32 := Scalar.select v1881 c4_i32_2170 c0_i32_2171
  let v1884 : BitVec 32 := Scalar.select v1883 c8_i32_2173 v1882
  let v1886 : BitVec 32 := Scalar.select v1885 c12_i32_2175 v1884
  let v1888 : BitVec 32 := Scalar.select v1887 c13_i32_2177 v1886
  let v1890 : BitVec 32 := Scalar.select v1889 c9_i32_2179 v1888
  let v1892 : BitVec 32 := Scalar.select v1891 c5_i32_2181 v1890
  let v1894 : BitVec 32 := Scalar.select v1893 c1_i32_2183 v1892
  let v1896 : BitVec 32 := Scalar.select v1895 c2_i32_2185 v1894
  let v1898 : BitVec 32 := Scalar.select v1897 c6_i32_2187 v1896
  let v1900 : BitVec 32 := Scalar.select v1899 c10_i32_2189 v1898
  let v1902 : BitVec 32 := Scalar.select v1901 c14_i32_2191 v1900
  let v1904 : BitVec 32 := Scalar.select v1903 c15_i32_2193 v1902
  let v1906 : BitVec 32 := Scalar.select v1905 c11_i32_2195 v1904
  let v1908 : BitVec 32 := Scalar.select v1907 c7_i32_2197 v1906
  let v1910 : BitVec 32 := Scalar.select v1909 c3_i32_2199 v1908
  let c128_i32_2212 : BitVec 32 := 128#32
  let v1924 : BitVec 32 := Scalar.muli v1910 c128_i32_2212
  let c64_i32_2213 : BitVec 32 := 64#32
  let v1925 : BitVec 32 := Scalar.addi v1924 c64_i32_2213
  let v1926 : Index := Scalar.indexCast v1925
  let c0_2214 : Index := 0#32
  ![v1926.toNat, 0]
abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Schedule.lean ====
/-
# The all-gather's schedule

The kernel sends every block of `x` around a ring of sixteen devices in both directions, eight hops each way, a hop cut
into four copies of 32 rows. Here are the ring, the copies, and the fixed order in which one device runs its actions,
with the facts about that order the proof uses. Nothing here speaks of memory or of a program.
-/
module

public import Mathlib.Data.Fintype.Prod
public import Mathlib.Data.Fin.VecNotation

@[expose] public section

namespace Cert.AllGather

/-- The direction a copy travels: `cw` to the device on the right, `ccw` to the device on the left. -/
inductive Dir where
  | cw
  | ccw
  deriving DecidableEq

instance : Fintype Dir := ⟨{.cw, .ccw}, fun d => by cases d <;> decide⟩

/-- The other direction. -/
def Dir.flip : Dir → Dir
  | .cw => .ccw
  | .ccw => .cw

/-- The ring's order of the devices. -/
def ham : Fin 16 → Fin 16 := ![0, 4, 8, 12, 13, 9, 5, 1, 2, 6, 10, 14, 15, 11, 7, 3]
/-- A device's place on the ring. -/
def inv : Fin 16 → Fin 16 := ![0, 7, 8, 15, 1, 6, 9, 14, 2, 5, 10, 13, 3, 4, 11, 12]

/-- The device a copy of direction `d` leaves device `c` for. -/
def nbr : Dir → Fin 16 → Fin 16
  | .cw, c => ham (inv c + 1)
  | .ccw, c => ham (inv c - 1)

/-- The device whose block of `x` reaches device `c` in direction `d` at hop `h`. -/
def origin : Dir → Fin 16 → Fin 8 → Fin 16
  | .cw, c, h => ham (inv c - Fin.castLE (by decide) h - 1)
  | .ccw, c, h => ham (inv c + Fin.castLE (by decide) h + 1)

set_option maxRecDepth 4000 in
theorem nbr_flip (d : Dir) (c : Fin 16) : nbr d.flip (nbr d c) = c := by revert d c; decide +kernel
theorem flip_nbr (d : Dir) (c : Fin 16) : nbr d (nbr d.flip c) = c := by revert d c; decide +kernel
theorem flip_flip (d : Dir) : d.flip.flip = d := by cases d <;> rfl
theorem nbr_ne (d : Dir) (c : Fin 16) : nbr d c ≠ c := by revert d c; decide +kernel

/-- The first hop brings the neighbour's own block. -/
theorem origin_zero (d : Dir) (c : Fin 16) : origin d (nbr d c) 0 = c := by revert d c; decide +kernel
/-- The next hop brings what the neighbour received at the hop before. -/
theorem origin_succ (d : Dir) (c : Fin 16) (h h' : Fin 8) (hh : h'.val = h.val + 1) :
    origin d (nbr d c) h' = origin d c h := by revert hh; revert d c h h'; decide +kernel

/-- The ring's step in direction `d`, a permutation of the devices. -/
def ringEquiv (d : Dir) : Fin 16 ≃ Fin 16 := ⟨nbr d, nbr d.flip, nbr_flip d, fun c => flip_nbr d c⟩

/-! ## The copies -/

/-- A copy: its direction, its hop, and which 32 rows of the block it carries. -/
abbrev Copy := Dir × Fin 8 × Fin 4

/-- The copies the kernel makes: all of the hops before the last; of the last hop the upper half clockwise, the lower
    half counterclockwise. -/
def used : Copy → Bool
  | (.cw, h, q) => h.val < 7 || q.val < 2
  | (.ccw, h, q) => h.val < 7 || 2 ≤ q.val

/-- One action of a device's program. -/
inductive Act where
  /-- start the copy -/
  | send (p : Copy)
  /-- wait for the copy's landing here -/
  | recv (p : Copy)
  /-- multiply the device's own block -/
  | home
  /-- multiply the block that arrived in the direction at the hop -/
  | block (d : Dir) (h : Fin 7)
  /-- multiply the half block that arrived in the direction at the last hop -/
  | half (d : Dir)
  /-- wait until the copy's source is read -/
  | wait (p : Copy)
  deriving DecidableEq

/-- Hop `h`'s actions on rows `q`: take each direction's landing and pass it on. -/
def hopRow (h : Fin 8) (q : Fin 4) : List Act :=
  ([Dir.cw, Dir.ccw].map fun d =>
    if used (d, h, q) then
      Act.recv (d, h, q) ::
        (if hh : h.val + 1 < 8 then (if used (d, ⟨h.val + 1, hh⟩, q) then [Act.send (d, ⟨h.val + 1, hh⟩, q)] else []) else [])
    else []).flatten

/-- Hop `h`'s multiplications. -/
def hopDots (h : Fin 8) : List Act :=
  if hh : h.val < 7 then [.block .cw ⟨h.val, hh⟩, .block .ccw ⟨h.val, hh⟩] else [.half .cw, .half .ccw]

/-- Hop `h`'s waits for its sends. -/
def hopWaits (h : Fin 8) : List Act :=
  ([Dir.cw, Dir.ccw].map fun d => ([0, 1, 2, 3].filter fun q => used (d, h, q)).map fun q => Act.wait (d, h, q)).flatten

/-- A device's actions after the barrier, in program order. -/
def acts : List Act :=
  ([0, 1, 2, 3].map fun q => [Act.send (.cw, 0, q), Act.send (.ccw, 0, q)]).flatten ++ [Act.home]
    ++ ([0, 1, 2, 3, 4, 5, 6, 7].map fun h => ([0, 1, 2, 3].map (hopRow h)).flatten ++ hopDots h).flatten
    ++ ([0, 1, 2, 3, 4, 5, 6, 7].map hopWaits).flatten

/-- When a copy is started, taken, and waited for: its action's place in `acts`. -/
def tSend (p : Copy) : ℕ := acts.idxOf (.send p)
def tRecv (p : Copy) : ℕ := acts.idxOf (.recv p)
def tWait (p : Copy) : ℕ := acts.idxOf (.wait p)

/-- How many actions there are. -/
theorem acts_length : acts.length = 197 := by decide +kernel

/-! ## The order's facts -/

/-- Whether the second action may come after the first: a start of a later hop's copy only after landings of hops before it,
    a landing not after the start that passes it on nor after the multiplication that reads it, a start not after the wait
    for it. -/
def ok : Act → Act → Bool
  | .recv p, .send p' => decide (p.2.1 < p'.2.1)
  | .send p, .recv p' => !(decide (p.1 = p'.1) && decide (p.2.1.val = p'.2.1.val + 1) && decide (p.2.2 = p'.2.2))
  | .wait p, .send p' => !decide (p = p')
  | .block d h, .recv p => !(decide (p.1 = d) && decide (p.2.1.val = h.val))
  | .half d, .recv p => !(decide (p.1 = d) && decide (p.2.1.val = 7))
  | _, _ => true

set_option maxRecDepth 100000 in
theorem acts_pairwise : acts.Pairwise fun a b => (ok a b && !decide (a = b)) = true := by decide +kernel

/-- The copies the kernel makes, as a set. -/
def U : Finset Copy := Finset.univ.filter fun p => used p = true

theorem mem_U (p : Copy) : p ∈ U ↔ used p = true := by unfold U; simp

theorem send_mem (p : Copy) (hp : p ∈ U) : Act.send p ∈ acts := by revert p; decide +kernel
theorem recv_mem (p : Copy) (hp : p ∈ U) : Act.recv p ∈ acts := by revert p; decide +kernel
theorem wait_mem (p : Copy) (hp : p ∈ U) : Act.wait p ∈ acts := by revert p; decide +kernel

/-- The copy an action is about is one the kernel makes. -/
def about : Act → Bool
  | .send p => used p
  | .recv p => used p
  | .wait p => used p
  | _ => true
theorem acts_about : ∀ a ∈ acts, about a = true := by decide +kernel

theorem pair_at {m n : ℕ} (hn : n < acts.length) (hmn : m < n) :
    ok (acts[m]'(hmn.trans hn)) acts[n] = true ∧ acts[m]'(hmn.trans hn) ≠ acts[n] := by
  have h := List.pairwise_iff_getElem.mp acts_pairwise m n (hmn.trans hn) hn hmn
  simp only [Bool.and_eq_true, Bool.not_eq_true', decide_eq_false_iff_not] at h
  exact h

/-- An action's place is where it stands. -/
theorem idxOf_at {n : ℕ} (hn : n < acts.length) : acts.idxOf acts[n] = n := by
  have hlt : acts.idxOf acts[n] < acts.length := List.idxOf_lt_length_of_mem (List.getElem_mem hn)
  have he : acts[acts.idxOf acts[n]] = acts[n] := List.getElem_idxOf hlt
  rcases Nat.lt_trichotomy (acts.idxOf acts[n]) n with h | h | h
  · exact absurd he (pair_at hn h).2
  · exact h
  · exact absurd he.symm (pair_at hlt h).2

theorem idxOf_lt {a : Act} (ha : a ∈ acts) : acts.idxOf a < 197 := acts_length ▸ List.idxOf_lt_length_of_mem ha
theorem idxOf_le (a : Act) : acts.idxOf a ≤ 197 := acts_length ▸ List.idxOf_le_length

/-- The action that stands at another's place is that other. -/
theorem at_idxOf {n : ℕ} (hn : n < acts.length) {a : Act} (h : acts.idxOf a = n) : acts[n] = a := by
  subst h; exact List.getElem_idxOf hn

/-- If one action may not come after the other, it comes before it. -/
theorem idxOf_lt_of_not_ok {a b : Act} (ha : a ∈ acts) (hne : a ≠ b) (hb : b ∈ acts) (h : ok b a = false) :
    acts.idxOf a < acts.idxOf b := by
  have la := List.idxOf_lt_length_of_mem ha
  have lb := List.idxOf_lt_length_of_mem hb
  rcases Nat.lt_trichotomy (acts.idxOf a) (acts.idxOf b) with h' | h' | h'
  · exact h'
  · exact absurd ((List.getElem_idxOf la).symm.trans ((at_idxOf la h'.symm))) hne
  · have := (pair_at la h').1
    rw [List.getElem_idxOf la, List.getElem_idxOf lb, h] at this
    exact absurd this Bool.false_ne_true

theorem tSend_lt_tWait (p : Copy) (hp : p ∈ U) : tSend p < tWait p :=
  idxOf_lt_of_not_ok (send_mem p hp) (by simp) (wait_mem p hp) (by simp [ok])

/-- A landing is taken before it is passed on. -/
theorem tRecv_lt_tSend (p p' : Copy) (hp : p ∈ U) (hp' : p' ∈ U) (hd : p'.1 = p.1) (hh : p'.2.1.val = p.2.1.val + 1) (hq : p'.2.2 = p.2.2) :
    tRecv p < tSend p' :=
  idxOf_lt_of_not_ok (recv_mem p hp) (by simp) (send_mem p' hp') (by simp [ok, hd, hh, hq])

/-- What is passed on was received. -/
theorem U_prev (d : Dir) (k : ℕ) (hk : k + 1 < 8) (q : Fin 4) (h : (d, (⟨k + 1, hk⟩ : Fin 8), q) ∈ U) : (d, (⟨k, by omega⟩ : Fin 8), q) ∈ U := by
  rw [mem_U] at h ⊢
  cases d <;> simp [used] at h ⊢ <;> omega

section At
variable {n : ℕ} (hn : n < acts.length)

theorem tSend_at {p : Copy} (h : acts[n] = .send p) : tSend p = n := by unfold tSend; rw [← h]; exact idxOf_at hn
theorem tRecv_at {p : Copy} (h : acts[n] = .recv p) : tRecv p = n := by unfold tRecv; rw [← h]; exact idxOf_at hn
theorem tWait_at {p : Copy} (h : acts[n] = .wait p) : tWait p = n := by unfold tWait; rw [← h]; exact idxOf_at hn

theorem U_at_send {p : Copy} (h : acts[n] = .send p) : p ∈ U := by
  have := acts_about _ (List.getElem_mem hn); rw [h] at this; exact (mem_U p).mpr this
theorem U_at_recv {p : Copy} (h : acts[n] = .recv p) : p ∈ U := by
  have := acts_about _ (List.getElem_mem hn); rw [h] at this; exact (mem_U p).mpr this
theorem U_at_wait {p : Copy} (h : acts[n] = .wait p) : p ∈ U := by
  have := acts_about _ (List.getElem_mem hn); rw [h] at this; exact (mem_U p).mpr this

/-- When a landing is waited for, the copies not yet started are of later hops. -/
theorem later_at {p : Copy} (h : acts[n] = .recv p) (p' : Copy) (hp' : p' ∈ U) (hs : n ≤ tSend p') : p.2.1 < p'.2.1 := by
  have hlt : tSend p' < acts.length := List.idxOf_lt_length_of_mem (send_mem p' hp')
  have he : acts[tSend p'] = .send p' := List.getElem_idxOf hlt
  rcases Nat.lt_or_eq_of_le hs with h' | h'
  · have := (pair_at hlt h').1
    rw [he, h] at this
    simpa [ok] using this
  · exfalso
    have e := (at_idxOf hn h'.symm).symm.trans h
    simp at e

/-- When a block is multiplied, all of it has landed. -/
theorem landed_block {d : Dir} {h : Fin 7} (ha : acts[n] = .block d h) (q : Fin 4) : tRecv (d, Fin.castLE (by decide) h, q) < n := by
  have hU : (d, Fin.castLE (by decide) h, q) ∈ U := by
    rw [mem_U]; have := h.isLt; cases d <;> simp [used]
  have := idxOf_lt_of_not_ok (recv_mem _ hU) (b := .block d h) (by simp) (ha ▸ List.getElem_mem hn) (by simp [ok])
  rw [← ha, idxOf_at hn] at this
  exact this
theorem landed_half {d : Dir} (ha : acts[n] = .half d) (q : Fin 4) (hU : (d, (7 : Fin 8), q) ∈ U) : tRecv (d, 7, q) < n := by
  have := idxOf_lt_of_not_ok (recv_mem _ hU) (b := .half d) (by simp) (ha ▸ List.getElem_mem hn) (by simp [ok])
  rw [← ha, idxOf_at hn] at this
  exact this

end At

/-! ## Which source a copy reads, and when the device holds it -/

/-- A source: hop 0's are quarters of the device's own block, hop `k + 1`'s what arrived at hop `k`. -/
abbrev Slot := Dir × Fin 9 × Fin 4
/-- The source a copy reads. -/
def slotOf (p : Copy) : Slot := (p.1, p.2.1.castSucc, p.2.2)

/-- Whether a source's rows are here after `n` actions. -/
def arrived (n : ℕ) : Slot → Prop
  | (_, ⟨0, _⟩, _) => True
  | (d, ⟨k + 1, hk⟩, q) => tRecv (d, ⟨k, by omega⟩, q) < n
/-- Whether a copy is reading the source after `n` actions. -/
def away (n : ℕ) (s : Slot) : Prop :=
  ∃ h : s.2.1.val < 8, tSend (s.1, ⟨s.2.1.val, h⟩, s.2.2) < n ∧ n ≤ tWait (s.1, ⟨s.2.1.val, h⟩, s.2.2)
def held (n : ℕ) (s : Slot) : Prop := arrived n s ∧ ¬ away n s

instance (n : ℕ) (s : Slot) : Decidable (arrived n s) := by
  obtain ⟨d, ⟨_ | k, hk⟩, q⟩ := s <;> (unfold arrived; infer_instance)
instance (n : ℕ) (s : Slot) : Decidable (away n s) := by unfold away; infer_instance
instance (n : ℕ) (s : Slot) : Decidable (held n s) := by unfold held; infer_instance

/-- The source a copy's landing makes. -/
def nextSlot (p : Copy) : Slot := (p.1, p.2.1.succ, p.2.2)

theorem tSend_unused (p : Copy) (hp : p ∉ U) : tSend p = 197 := by
  have h : Act.send p ∉ acts := fun hm => hp ((mem_U p).mpr (acts_about _ hm))
  exact (List.idxOf_eq_length h).trans acts_length
theorem tRecv_unused (p : Copy) (hp : p ∉ U) : tRecv p = 197 := by
  have h : Act.recv p ∉ acts := fun hm => hp ((mem_U p).mpr (acts_about _ hm))
  exact (List.idxOf_eq_length h).trans acts_length

/-- A source's state changes only at its copy's start and wait and at the landing that makes it. -/
theorem held_iff {n : ℕ} (hn : n < acts.length) (s : Slot) (h1 : ∀ p, acts[n] = .send p → slotOf p ≠ s)
    (h2 : ∀ p, acts[n] = .wait p → slotOf p ≠ s) (h3 : ∀ p, acts[n] = .recv p → nextSlot p ≠ s) : held n s ↔ held (n + 1) s := by
  have ha : arrived n s ↔ arrived (n + 1) s := by
    obtain ⟨d, ⟨_ | k, hk⟩, q⟩ := s
    · exact Iff.rfl
    · have : tRecv (d, ⟨k, by omega⟩, q) ≠ n := fun e => h3 _ (at_idxOf hn e) rfl
      show tRecv _ < n ↔ tRecv _ < n + 1
      omega
  have hw : away n s ↔ away (n + 1) s := by
    refine exists_congr fun hlt => ?_
    have e1 : tSend (s.1, ⟨s.2.1.val, hlt⟩, s.2.2) ≠ n := fun e => h1 _ (at_idxOf hn e) rfl
    have e2 : tWait (s.1, ⟨s.2.1.val, hlt⟩, s.2.2) ≠ n := fun e => h2 _ (at_idxOf hn e) rfl
    omega
  unfold held
  rw [ha, hw]

theorem arrived_slotOf (p : Copy) (hp : p ∈ U) (n : ℕ) (hn : tSend p ≤ n) : arrived n (slotOf p) := by
  obtain ⟨d, ⟨_ | k, hk⟩, q⟩ := p
  · exact trivial
  · exact (tRecv_lt_tSend _ _ (U_prev d k hk q hp) hp rfl rfl rfl).trans_le hn

theorem held_send {n : ℕ} (hn : n < acts.length) {p : Copy} (h : acts[n] = .send p) : held n (slotOf p) ∧ ¬ held (n + 1) (slotOf p) := by
  have ht := tSend_at hn h
  have hw := tSend_lt_tWait p (U_at_send hn h)
  refine ⟨⟨arrived_slotOf p (U_at_send hn h) n ht.le, fun ⟨_, h1, _⟩ => absurd (show tSend p < n from h1) (by omega)⟩,
    fun hh => hh.2 ⟨p.2.1.isLt, show tSend p < n + 1 ∧ n + 1 ≤ tWait p from ⟨by omega, by omega⟩⟩⟩

theorem held_wait {n : ℕ} (hn : n < acts.length) {p : Copy} (h : acts[n] = .wait p) : ¬ held n (slotOf p) ∧ held (n + 1) (slotOf p) := by
  have ht := tWait_at hn h
  have hw := tSend_lt_tWait p (U_at_wait hn h)
  refine ⟨fun hh => hh.2 ⟨p.2.1.isLt, show tSend p < n ∧ n ≤ tWait p from ⟨by omega, by omega⟩⟩,
    ⟨arrived_slotOf p (U_at_wait hn h) _ (by omega), fun ⟨_, _, h1⟩ => absurd (show n + 1 ≤ tWait p from h1) (by omega)⟩⟩

theorem held_recv {n : ℕ} (hn : n < acts.length) {p : Copy} (h : acts[n] = .recv p) : ¬ held n (nextSlot p) ∧ held (n + 1) (nextSlot p) := by
  have ht := tRecv_at hn h
  have hl : n < 197 := acts_length ▸ hn
  refine ⟨fun hh => absurd (show tRecv p < n from hh.1) (by omega), ⟨show tRecv p < n + 1 by omega, ?_⟩⟩
  rintro ⟨h8, h1, -⟩
  by_cases hU : (p.1, (⟨p.2.1.val + 1, h8⟩ : Fin 8), p.2.2) ∈ U
  · have := tRecv_lt_tSend p _ (U_at_recv hn h) hU rfl rfl rfl
    exact absurd (show tSend (p.1, ⟨p.2.1.val + 1, h8⟩, p.2.2) < n + 1 from h1) (by omega)
  · have := tSend_unused _ hU
    exact absurd (show tSend (p.1, ⟨p.2.1.val + 1, h8⟩, p.2.2) < n + 1 from h1) (by omega)

/-- At the start the device holds its own block's quarters; -/
theorem held_zero (s : Slot) : held 0 s ↔ s.2.1 = 0 := by
  obtain ⟨d, ⟨_ | k, hk⟩, q⟩ := s
  · exact ⟨fun _ => rfl, fun _ => ⟨trivial, fun ⟨_, h, _⟩ => absurd h (Nat.not_lt_zero _)⟩⟩
  · exact ⟨fun h => absurd h.1 (Nat.not_lt_zero _), fun h => by simp at h⟩

theorem not_away_last (s : Slot) : ¬ away 197 s := by
  rintro ⟨h8, h1, h2⟩
  by_cases hU : (s.1, (⟨s.2.1.val, h8⟩ : Fin 8), s.2.2) ∈ U
  · have := idxOf_lt (wait_mem _ hU)
    exact absurd (show 197 ≤ acts.idxOf _ from h2) (by omega)
  · have := tSend_unused _ hU
    omega
/-- at the end those, and everything that landed. -/
theorem held_last (s : Slot) : held 197 s ↔ arrived 197 s := ⟨fun h => h.1, fun h => ⟨h, not_away_last s⟩⟩
theorem arrived_last (p : Copy) : arrived 197 (nextSlot p) ↔ p ∈ U := by
  show tRecv p < 197 ↔ _
  constructor
  · intro h; by_contra hp; have := tRecv_unused p hp; omega
  · intro h; exact idxOf_lt (recv_mem p h)

end Cert.AllGather
-- ==== Proof.KernelIdeal.Program.lean ====
/-
# The kernel's body as the schedule's actions

The printed body of the kernel is one long sequence of memory operations. It is the schedule's actions
(`Cert.AllGather.acts`), each written once with its direction, hop and rows as parameters, after the barrier.
-/
module

public import proofs.«01_k».proof.Proof.Schedule
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Tactic

@[expose] public section

noncomputable section

namespace Cert.KernelIdealProof

open Cert.KernelIdeal Cert.KernelIdeal.Gen Cert.AllGather
open Idealize.ShloMosaic Idealize.ShloMosaic.TcCoe
open Idealize.SL Idealize.SL.Sem

variable {F : FTy → Type} [FloatOps F]

/-! ## The memrefs, by direction, hop and rows -/

/-- The `x` block, the `w` block and the result in VMEM. -/
abbrev xM : Memref sig .tc .vmem S128x2048 .bf16 := Memref.whole cc0_stg0_0
abbrev wM : Memref sig .tc .vmem S2048x128 .bf16 := Memref.whole cc0_stg1_0
abbrev oM : Memref sig .tc .vmem S2048x128 .f32 := Memref.whole cc0_stg2_0

/-- The buffer a direction's copies land in, a block of `x` for each hop. -/
abbrev strRef : Dir → Ref sig .tc
  | .cw => cc0_scratch0
  | .ccw => cc0_scratch1
abbrev strM : Dir → Memref sig .tc .vmem S8x128x2048 .bf16
  | .cw => Memref.whole cc0_scratch0
  | .ccw => Memref.whole cc0_scratch1

/-- A direction's send semaphores, and its receive semaphores, one for each hop and rows. -/
abbrev sendSems : Dir → DmaSems sig S8x4
  | .cw => cc0_scratch2
  | .ccw => cc0_scratch4
abbrev recvSems : Dir → DmaSems sig S8x4
  | .cw => cc0_scratch3
  | .ccw => cc0_scratch5

/-- The runtime's barrier semaphore. -/
abbrev barS : Sem sig := (SemArray.scalar (sig.barrier 0 rfl) : Sems sig S_).sem

theorem inbSem (h : Fin 8) (q : Fin 4) : ∀ a, (![h.val, q.val] : Fin 2 → Nat) a + S1x1.size a ≤ S8x4.size a := by
  revert h q; decide
/-- The send and receive semaphore of a copy. -/
def sendS (p : Copy) : DmaSem sig :=
  (((sendSems p.1).slice (Rect.unit (s := S8x4) ![p.2.1.val, p.2.2.val] S1x1.size (inbSem p.2.1 p.2.2))).squeeze S_ squeezes_S1x1_S_).sem
def recvS (p : Copy) : DmaSem sig :=
  (((recvSems p.1).slice (Rect.unit (s := S8x4) ![p.2.1.val, p.2.2.val] S1x1.size (inbSem p.2.1 p.2.2))).squeeze S_ squeezes_S1x1_S_).sem

theorem inbStr (h : Fin 8) (q : Fin 4) : ∀ a, (![h.val, 32 * q.val, 0] : Fin 3 → Nat) a + S1x32x2048.size a ≤ S8x128x2048.size a := by
  revert h q; decide
theorem inbX (q : Fin 4) : ∀ a, (![32 * q.val, 0] : Fin 2 → Nat) a + S32x2048.size a ≤ S128x2048.size a := by
  revert q; decide
/-- The rows of a hop's block in a landing buffer. -/
abbrev strRect (h : Fin 8) (q : Fin 4) : Rect S8x128x2048 := Rect.unit (s := S8x128x2048) ![h.val, 32 * q.val, 0] S1x32x2048.size (inbStr h q)
/-- The rows of the device's own block. -/
abbrev xRect (q : Fin 4) : Rect S128x2048 := Rect.unit (s := S128x2048) ![32 * q.val, 0] S32x2048.size (inbX q)

/-- What a copy lands in. -/
def pieceM (p : Copy) : Memref sig .tc .vmem S32x2048 .bf16 :=
  ((strM p.1).slice (strRect p.2.1 p.2.2) (fun _ => rfl)).squeeze S32x2048 squeezes_S1x32x2048_S32x2048
/-- A quarter of the device's own block. -/
def xPieceM (q : Fin 4) : Memref sig .tc .vmem S32x2048 .bf16 := xM.slice (xRect q) (fun _ => rfl)

/-- The hop before. -/
def prevHop (h : Fin 8) : Fin 8 := ⟨h.val - 1, by omega⟩
/-- What a copy is read from: of the first hop the device's own block, of a later one what arrived at the hop before. -/
def srcM (p : Copy) : Memref sig .tc .vmem S32x2048 .bf16 :=
  match p.2.1 with
  | ⟨0, _⟩ => xPieceM p.2.2
  | ⟨k + 1, hk⟩ => pieceM (p.1, ⟨k, by omega⟩, p.2.2)

theorem strWords (h : Fin 8) (q : Fin 4) : (strRect h q).WholeWords (EltTy.packing .bf16) := by
  revert h q; decide
theorem xWords (q : Fin 4) : (xRect q).WholeWords (EltTy.packing .bf16) := by
  revert q; decide
theorem strM_whole (d : Dir) : (strM d).IsWhole := by cases d <;> exact Memref.isWhole_whole _
theorem piece_exact (p : Copy) : (pieceM p).view.WordExact :=
  ((strM_whole p.1).wordExact_slice rfl _ (strWords p.2.1 p.2.2)).reshape _ _
theorem xPiece_exact (q : Fin 4) : (xPieceM q).view.WordExact :=
  (Memref.isWhole_whole cc0_stg0_0).wordExact_slice rfl _ (xWords q)
theorem src_exact (p : Copy) : (srcM p).view.WordExact := by
  obtain ⟨d, ⟨_ | k, hk⟩, q⟩ := p
  · exact xPiece_exact q
  · exact piece_exact _

/-! ## The actions as programs -/

/-- The device a direction's copies go to, as the kernel computes it. -/
def dst (c : Dev nD) : Dir → Dev nD
  | .cw => ⟨k0_dev3 c, k0_dev3_lt c⟩
  | .ccw => ⟨k0_dev4 c, k0_dev4_lt c⟩

theorem piece_hsc (p : Copy) : (pieceM p).view.ref.isScScratch = false := by
  obtain ⟨d, h, q⟩ := p; cases d <;> rfl

abbrev rX : Rect S128x2048 := Rect.unit (s := S128x2048) ![0, 0] S128x2048.size inb_S128x2048_S128x2048_0_0
abbrev rW : Rect S2048x128 := Rect.unit (s := S2048x128) ![0, 0] S2048x128.size inb_S2048x128_S2048x128_0_0
theorem inbSlot (h : Fin 7) : ∀ a, (![h.val, 0, 0] : Fin 3 → Nat) a + S1x128x2048.size a ≤ S8x128x2048.size a := by
  revert h; decide
abbrev rSlot (h : Fin 7) : Rect S8x128x2048 := Rect.unit (s := S8x128x2048) ![h.val, 0, 0] S1x128x2048.size (inbSlot h)
/-- The half of the last block that arrives in the direction. -/
abbrev rHalf : Dir → Rect S8x128x2048
  | .cw => Rect.unit (s := S8x128x2048) ![7, 0, 0] S1x64x2048.size inb_S8x128x2048_S1x64x2048_7_0_0
  | .ccw => Rect.unit (s := S8x128x2048) ![7, 64, 0] S1x64x2048.size inb_S8x128x2048_S1x64x2048_7_64_0

/-- Where a product's rows go in the result. -/
abbrev rHome (c : Dev nD) : Rect S2048x128 := Rect.unit (s := S2048x128) (k0_off1 c) S128x128.size (k0_off1_inb c)
abbrev rBlock (c : Dev nD) (h : Fin 7) : Dir → Rect S2048x128
  | .cw => Rect.unit (s := S2048x128) (k0_off2 c (BitVec.ofNat 32 h.val)) S128x128.size (k0_off2_inb c h)
  | .ccw => Rect.unit (s := S2048x128) (k0_off3 c (BitVec.ofNat 32 h.val)) S128x128.size (k0_off3_inb c h)
abbrev rAnti (c : Dev nD) : Dir → Rect S2048x128
  | .cw => Rect.unit (s := S2048x128) (k0_off4 c) S64x128.size (k0_off4_inb c)
  | .ccw => Rect.unit (s := S2048x128) (k0_off5 c) S64x128.size (k0_off5_inb c)

/-- The body's programs. -/
abbrev P₀ : Type 1 := Prog (TpuEff nD τ sig (Elt F) Λ₀ .tc) PUnit

/-- Multiply what `src` holds by `w` into the rows `ro` of the result, then `k`. -/
def dotProg {s : Shape} {t : Shape} (src : Memref sig .tc .vmem s .bf16) (rs : Rect s) (hl : src.view.LoadsAt rs.toLoadRect)
    (ro : Rect S2048x128) (hlo : oM.view.LoadsAt ro.toLoadRect) (hst : (oM.access ro).Stores Finset.univ)
    (pay : Vec F rs.shape .bf16 → Vec F S2048x128 .bf16 → Vec F ro.shape .f32) (k : P₀ (F := F)) : P₀ (F := F) :=
  .op (.load src rs.toLoadRect hl) fun x =>
  .op (.load wM rW.toLoadRect (View.loadsAt_vmem h_S2048x128)) fun w =>
  .op (.load oM ro.toLoadRect hlo) fun _ =>
  .op (.store oM ro (pay x w) Finset.univ hst (.inl rfl)) fun _ => k

/-- One action on device `c`, then `k`. -/
def actProg (c : Dev nD) (k : P₀ (F := F)) : Act → P₀ (F := F)
  | .send p => .op (.enqueueDma (srcM p) (.remote (Dev.tc (dst c p.1)) (pieceM p) (.dma (sendS p)) (piece_hsc p)) (.dma (recvS p))
      (src_exact p) (piece_exact p) ⟨⟨rfl, Or.inl rfl⟩, trivial⟩) fun _ => k
  | .recv p => .op (.waitDma2 (recvS p) (srcM p) (pieceM p) (src_exact p) (piece_exact p)) fun _ => k
  | .wait p => .op (.waitDma2 (sendS p) (pieceM p) (srcM p) (piece_exact p) (src_exact p)) fun _ => k
  | .home => dotProg (F := F) (t := S128x128) xM rX (View.loadsAt_vmem h_S128x2048) (rHome c) (View.loadsAt_vmem h_S128x128)
      (View.stores_vmem_bits_univ h_S128x128 rfl) k0_pay1 k
  | .block .cw h => dotProg (F := F) (t := S128x128) (strM .cw) (rSlot h) (View.loadsAt_vmem h_S1x128x2048) (rBlock c h .cw) (View.loadsAt_vmem h_S128x128)
      (View.stores_vmem_bits_univ h_S128x128 rfl) k0_pay2 k
  | .block .ccw h => dotProg (F := F) (t := S128x128) (strM .ccw) (rSlot h) (View.loadsAt_vmem h_S1x128x2048) (rBlock c h .ccw) (View.loadsAt_vmem h_S128x128)
      (View.stores_vmem_bits_univ h_S128x128 rfl) k0_pay2 k
  | .half .cw => dotProg (F := F) (t := S64x128) (strM .cw) (rHalf .cw) (View.loadsAt_vmem h_S1x64x2048) (rAnti c .cw) (View.loadsAt_vmem h_S64x128)
      (View.stores_vmem_bits_univ h_S64x128 rfl) k0_pay18 k
  | .half .ccw => dotProg (F := F) (t := S64x128) (strM .ccw) (rHalf .ccw) (View.loadsAt_vmem h_S1x64x2048) (rAnti c .ccw) (View.loadsAt_vmem h_S64x128)
      (View.stores_vmem_bits_univ h_S64x128 rfl) k0_pay19 k

/-- A list of actions on device `c`. -/
def runActs (c : Dev nD) : List Act → P₀ (F := F)
  | [] => .ret ⟨⟩
  | a :: l => actProg c (runActs c l) a

/-- The whole body: the device's number, a signal to each neighbour's barrier, the wait for both, and the actions. -/
def bodyProg : P₀ (F := F) :=
  .op .deviceId fun c =>
  .op (.semSignal (Dev.tc (dst c .ccw)) barS 1) fun _ =>
  .op (.semSignal (Dev.tc (dst c .cw)) barS 1) fun _ =>
  .op (.semWait barS 2) fun _ => runActs c acts

set_option maxRecDepth 100000 in
/-- The printed body is the schedule's. -/
theorem body_eq : cc0_body (F := F) xM (Memref.isWhole_whole _) wM (Memref.isWhole_whole _) oM (Memref.isWhole_whole _)
      (Memref.whole cc0_scratch0) (Memref.isWhole_whole _) (Memref.whole cc0_scratch1) (Memref.isWhole_whole _)
      cc0_scratch2 cc0_scratch3 cc0_scratch4 cc0_scratch5 = bodyProg (F := F) := by
  chain_rfl

end Cert.KernelIdealProof

end
-- ==== Proof.KernelIdeal.Memory.lean ====
/-
# The landing buffers

A copy lands in a *piece*: 32 rows of one hop's block of its direction's buffer. Here are the pieces as sets of indices,
what a buffer holds once its pieces have landed, and the fact that a copy carries exactly that: read from its source on
one device and written into its piece on the neighbour, it leaves there the rows the neighbour's buffer should hold.
-/
module

public import proofs.«01_k».proof.Proof.KernelIdeal.Program
public import Idealize.ShloMosaic.Lib.Pipeline.Launch
public import Idealize.ShloMosaic.Lib.Pipeline.Kit
public import Idealize.ShloMosaic.Lib.ValueLayout
public import Idealize.ShloMosaic.Lib.ValueIdxCoords

@[expose] public section

noncomputable section

namespace Cert.KernelIdealProof

open Cert.KernelIdeal Cert.KernelIdeal.Gen Cert.AllGather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 reshapeEquiv_ix2_1ab)

variable {F : FTy → Type} [FloatOps F]

/-! ## The resource algebra: the windows' copies and the ring's rounds, whose duties are named by directions -/

abbrev UB : Type := URounds (GSem nD τ sig) Dir
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Sets of indices and contents -/

/-- A block of `x`, and what a landing buffer holds. -/
abbrev XC (F : FTy → Type) [FloatOps F] : Type := S128x2048.Idx → Elt F .bf16
abbrev BC (F : FTy → Type) [FloatOps F] : Type := S8x128x2048.Idx → Elt F .bf16

/-- The rows of a landing buffer a copy writes, and those of the device's block a first copy reads. -/
def pset (h : Fin 8) (q : Fin 4) : Finset S8x128x2048.Idx := (strRect h q).set
def xset (q : Fin 4) : Finset S128x2048.Idx := (xRect q).set

theorem mem_pset (h : Fin 8) (q : Fin 4) (i : S8x128x2048.Idx) :
    i ∈ pset h q ↔ (i 0).val = h.val ∧ 32 * q.val ≤ (i 1).val ∧ (i 1).val < 32 * q.val + 32 := by
  unfold pset strRect
  rw [Rect.mem_set_unit]
  constructor
  · intro H
    have h0 := H 0; have h1 := H 1
    simp at h0 h1
    omega
  · rintro ⟨h0, h1, h2⟩ a
    fin_cases a
    · simp; omega
    · simp; omega
    · simp; exact (i 2).isLt

theorem mem_xset (q : Fin 4) (i : S128x2048.Idx) :
    i ∈ xset q ↔ 32 * q.val ≤ (i 0).val ∧ (i 0).val < 32 * q.val + 32 := by
  unfold xset xRect
  rw [Rect.mem_set_unit]
  constructor
  · intro H
    have h0 := H 0
    simp at h0
    omega
  · rintro ⟨h1, h2⟩ a
    fin_cases a
    · simp; omega
    · simp; exact (i 1).isLt

theorem pset_disjoint (h : Fin 8) (q : Fin 4) (h' : Fin 8) (q' : Fin 4) (hne : (h, q) ≠ (h', q')) : Disjoint (pset h q) (pset h' q') := by
  rw [Finset.disjoint_left]
  intro i hi hi'
  rw [mem_pset] at hi hi'
  exact hne (Prod.ext (Fin.ext (hi.1.symm.trans hi'.1)) (Fin.ext (by show q.val = q'.val; omega)))

theorem xset_disjoint (q q' : Fin 4) (hne : q ≠ q') : Disjoint (xset q) (xset q') := by
  rw [Finset.disjoint_left]
  intro i hi hi'
  rw [mem_xset] at hi hi'
  exact hne (Fin.ext (by omega))

theorem pset_biUnion : (Finset.univ : Finset (Fin 8 × Fin 4)).biUnion (fun hq => pset hq.1 hq.2) = Finset.univ := by
  ext i
  simp only [Finset.mem_biUnion, Finset.mem_univ, true_and, iff_true]
  have h1 : (i 1).val < 128 := (i 1).isLt
  refine ⟨(i 0, ⟨(i 1).val / 32, by omega⟩), ?_⟩
  rw [mem_pset]
  exact ⟨rfl, by show 32 * ((i 1).val / 32) ≤ _; omega, by show _ < 32 * ((i 1).val / 32) + 32; omega⟩

theorem xset_biUnion : (Finset.univ : Finset (Fin 4)).biUnion xset = Finset.univ := by
  ext i
  simp only [Finset.mem_biUnion, Finset.mem_univ, true_and, iff_true]
  have h1 : (i 0).val < 128 := (i 0).isLt
  refine ⟨⟨(i 0).val / 32, by omega⟩, ?_⟩
  rw [mem_xset]
  exact ⟨by show 32 * ((i 0).val / 32) ≤ _; omega, by show _ < 32 * ((i 0).val / 32) + 32; omega⟩

/-- What direction `d`'s buffer of device `c` holds once everything has landed: at each hop the block of the device that
    many places back. -/
def land (xs : Dev nD → XC F) (c : Dev nD) (d : Dir) : BC F := fun i => xs (origin d c (i 0)) (ix2 (i 1) (i 2))

/-! ## Ownership of the buffers -/

/-- Share `s` of the indices `S` of direction `d`'s buffer on device `c`, holding `g`. -/
def strPts (c : Dev nD) (d : Dir) (S : Finset S8x128x2048.Idx) (s : PosShare TreeShare) (g : BC F) : sProp 𝕄 :=
  match d with
  | .cw => ((c : Thread nD τ).loc cc0_scratch0) ↦[S]{s} g
  | .ccw => ((c : Thread nD τ).loc cc0_scratch1) ↦[S]{s} g
/-- Share `s` of the indices `S` of the device's block, holding `g`. -/
def xPts (c : Dev nD) (S : Finset S128x2048.Idx) (s : PosShare TreeShare) (g : XC F) : sProp 𝕄 :=
  ((c : Thread nD τ).loc cc0_stg0_0) ↦[S]{s} g

instance strPts_storable (c : Dev nD) (d : Dir) (S) (s) (g : BC F) : BI.Storable (upEmb : UEmb _ 𝕄) (strPts c d S s g) := by
  cases d <;> (unfold strPts; infer_instance)
instance xPts_storable (c : Dev nD) (S) (s) (g : XC F) : BI.Storable (upEmb : UEmb _ 𝕄) (xPts c S s g) := by unfold xPts; infer_instance

section Laws
variable (c : Dev nD) (d : Dir) (s : PosShare TreeShare) (g : BC F)

theorem strPts_share (S : Finset S8x128x2048.Idx) : (strPts c d S s g : sProp 𝕄) = iprop(strPts c d S s.left g ∗ strPts c d S s.right g) := by
  cases d <;> exact BI.Entails.antisymm (pointsTo_share (PosShare.mem_left_op_right s)).1 (pointsTo_share (PosShare.mem_left_op_right s)).2
theorem strPts_congr (S : Finset S8x128x2048.Idx) (g' : BC F) (h : ∀ i ∈ S, g i = g' i) : (strPts c d S s g : sProp 𝕄) = strPts c d S s g' := by
  cases d
  · exact pointsTo_congr (ℓ := (c : Thread nD τ).loc cc0_scratch0) h
  · exact pointsTo_congr (ℓ := (c : Thread nD τ).loc cc0_scratch1) h
theorem strPts_union (S T : Finset S8x128x2048.Idx) (h : Disjoint S T) :
    (strPts c d (S ∪ T) s g : sProp 𝕄) = iprop(strPts c d S s g ∗ strPts c d T s g) := by
  cases d
  · exact BI.Entails.antisymm (pointsTo_union h).1 (pointsTo_union h).2
  · exact BI.Entails.antisymm (pointsTo_union h).1 (pointsTo_union h).2
theorem strPts_biUnion {I : Type} [DecidableEq I] (T : Finset I) (S : I → Finset S8x128x2048.Idx)
    (h : ∀ i ∈ T, ∀ j ∈ T, i ≠ j → Disjoint (S i) (S j)) :
    (strPts c d (T.biUnion S) s g : sProp 𝕄) = bigSep T fun i => strPts c d (S i) s g := by
  cases d
  · exact pointsTo_biUnion (ℓ := (c : Thread nD τ).loc cc0_scratch0) T S h
  · exact pointsTo_biUnion (ℓ := (c : Thread nD τ).loc cc0_scratch1) T S h
end Laws

section LawsX
variable (c : Dev nD) (s : PosShare TreeShare) (g : XC F)
theorem xPts_share (S : Finset S128x2048.Idx) : (xPts c S s g : sProp 𝕄) = iprop(xPts c S s.left g ∗ xPts c S s.right g) :=
  BI.Entails.antisymm (pointsTo_share (PosShare.mem_left_op_right s)).1 (pointsTo_share (PosShare.mem_left_op_right s)).2
theorem xPts_biUnion {I : Type} [DecidableEq I] (T : Finset I) (S : I → Finset S128x2048.Idx)
    (h : ∀ i ∈ T, ∀ j ∈ T, i ≠ j → Disjoint (S i) (S j)) :
    (xPts c (T.biUnion S) s g : sProp 𝕄) = bigSep T fun i => xPts c (S i) s g :=
  pointsTo_biUnion (ℓ := (c : Thread nD τ).loc cc0_stg0_0) T S h
end LawsX

/-! ## A copy's two ends -/

/-- Where element `j` of a copy's 32 rows lies in the landing buffer, and in the device's block. -/
def pieceEmb (h : Fin 8) (q : Fin 4) (j : S32x2048.Idx) : S8x128x2048.Idx :=
  (strRect h q).emb (Shape.reshapeEquiv (by decide : S32x2048.numel = S1x32x2048.numel) j)
def xEmb (q : Fin 4) (j : S32x2048.Idx) : S128x2048.Idx := (xRect q).emb j

theorem pieceEmb_eq (h : Fin 8) (q : Fin 4) (x : Fin 32) (y : Fin 2048) :
    pieceEmb h q (ix2 x y) = (ix3 h ⟨32 * q.val + x.val, by omega⟩ y : S8x128x2048.Idx) := by
  unfold pieceEmb
  rw [reshapeEquiv_ix2_1ab]
  funext a; apply Fin.ext
  fin_cases a
  · show h.val + 1 * 0 = h.val; omega
  · show 32 * q.val + 1 * x.val = 32 * q.val + x.val; omega
  · show 0 + 1 * y.val = y.val; omega

theorem xEmb_eq (q : Fin 4) (x : Fin 32) (y : Fin 2048) :
    xEmb q (ix2 x y) = (ix2 ⟨32 * q.val + x.val, by omega⟩ y : S128x2048.Idx) := by
  unfold xEmb
  funext a; apply Fin.ext
  fin_cases a
  · show 32 * q.val + 1 * x.val = 32 * q.val + x.val; omega
  · show 0 + 1 * y.val = y.val; omega

theorem land_piece (xs : Dev nD → XC F) (c : Dev nD) (d : Dir) (h : Fin 8) (q : Fin 4) (j : S32x2048.Idx) :
    land xs c d (pieceEmb h q j) = xs (origin d c h) (xEmb q j) := by
  rw [eq_ix2 j]
  exact congrArg (land xs c d) (pieceEmb_eq h q (j 0) (j 1)) |>.trans (congrArg (xs (origin d c h)) (xEmb_eq q (j 0) (j 1))).symm

/-- What a first copy brings the neighbour is the device's own block's rows; -/
theorem land_first (xs : Dev nD → XC F) (c : Dev nD) (d : Dir) (q : Fin 4) (j : S32x2048.Idx) :
    land xs (nbr d c) d (pieceEmb 0 q j) = xs c (xEmb q j) := by
  rw [land_piece, origin_zero]
/-- what a later one brings is what came here at the hop before. -/
theorem land_later (xs : Dev nD → XC F) (c : Dev nD) (d : Dir) (h h' : Fin 8) (hh : h'.val = h.val + 1) (q : Fin 4) (j : S32x2048.Idx) :
    land xs (nbr d c) d (pieceEmb h' q j) = land xs c d (pieceEmb h q j) := by
  rw [land_piece, land_piece, origin_succ d c h h' hh]

/-- The device a direction's copies go to is the neighbour in that direction. -/
theorem dst_eq (c : Dev nD) (d : Dir) : dst c d = nbr d c := by revert c d; decide +kernel

/-- What of the device's block a direction's first copies read: half of the half the multiplications leave. -/
def xShare : Dir → PosShare TreeShare
  | .cw => fullShare.right.left
  | .ccw => fullShare.right.right

/-- What a copy reads, held while it is not under way. -/
def srcPts (xs : Dev nD → XC F) (c : Dev nD) (p : Copy) : sProp 𝕄 :=
  match p.2.1 with
  | ⟨0, _⟩ => xPts c (xset p.2.2) (xShare p.1) (xs c)
  | ⟨k + 1, hk⟩ => strPts c p.1 (pset ⟨k, by omega⟩ p.2.2) fullShare.right (land xs c p.1)

instance srcPts_storable (xs : Dev nD → XC F) (c : Dev nD) (p : Copy) : BI.Storable (upEmb : UEmb _ 𝕄) (srcPts xs c p) := by
  obtain ⟨d, ⟨_ | k, hk⟩, q⟩ := p <;> (unfold srcPts; infer_instance)

theorem piece_set_cw (h : Fin 8) (q : Fin 4) : (pieceM (.cw, h, q)).view.set = pset h q := by
  show (((View.whole cc0_scratch0).slice (strRect h q)).reshape S32x2048 _).set = _
  rw [View.set_reshape]; exact View.set_slice_whole _ _
theorem piece_set_ccw (h : Fin 8) (q : Fin 4) : (pieceM (.ccw, h, q)).view.set = pset h q := by
  show (((View.whole cc0_scratch1).slice (strRect h q)).reshape S32x2048 _).set = _
  rw [View.set_reshape]; exact View.set_slice_whole _ _
theorem xPiece_set (q : Fin 4) : (xPieceM q).view.set = xset q := View.set_slice_whole _ _

/-- The piece a copy lands in, as the copy's destination. -/
theorem piece_pts (p : Copy) (c : Dev nD) (s : PosShare TreeShare) (g : BC F) :
    ∃ fd : Buf (Elt F) ((pieceM p).view.loc (c : Thread nD τ)),
      (strPts c p.1 (pset p.2.1 p.2.2) s g : sProp 𝕄) = ((pieceM p).view.loc (c : Thread nD τ) ↦[(pieceM p).view.set]{s} fd) := by
  obtain ⟨d, h, q⟩ := p
  cases d
  · exact ⟨g, by rw [piece_set_cw]; rfl⟩
  · exact ⟨g, by rw [piece_set_ccw]; rfl⟩

theorem mem_pset_emb (h : Fin 8) (q : Fin 4) (i : S8x128x2048.Idx) (hi : i ∈ pset h q) : ∃ j, pieceEmb h q j = i := by
  rw [← piece_set_cw] at hi
  obtain ⟨j, -, hj⟩ := Finset.mem_map.mp hi
  exact ⟨j, hj⟩

/-- A piece written with `w` holds any contents that are `w` on the piece. -/
theorem piece_write (d : Dir) (h : Fin 8) (q : Fin 4) (c : Dev nD) (s : PosShare TreeShare) (w : S32x2048.Idx → Elt F .bf16) (g : BC F)
    (hg : ∀ j, g (pieceEmb h q j) = w j) (fd : Buf (Elt F) ((pieceM (d, h, q)).view.loc (c : Thread nD τ))) :
    ((pieceM (d, h, q)).view.loc (c : Thread nD τ) ↦[(pieceM (d, h, q)).view.set]{s} (pieceM (d, h, q)).view.write (Elt F) fd w Finset.univ : sProp 𝕄)
      = strPts c d (pset h q) s g := by
  cases d
  · rw [piece_set_cw]
    refine pointsTo_congr (ℓ := (c : Thread nD τ).loc cc0_scratch0) fun i hi => ?_
    obtain ⟨j, rfl⟩ := mem_pset_emb h q i hi
    exact (View.write_emb_of_mem (v := (pieceM (.cw, h, q)).view) fd w (Finset.mem_univ j)).trans (hg j).symm
  · rw [piece_set_ccw]
    refine pointsTo_congr (ℓ := (c : Thread nD τ).loc cc0_scratch1) fun i hi => ?_
    obtain ⟨j, rfl⟩ := mem_pset_emb h q i hi
    exact (View.write_emb_of_mem (v := (pieceM (.ccw, h, q)).view) fd w (Finset.mem_univ j)).trans (hg j).symm

/-- A piece read, as a later copy's source. -/
theorem piece_src (c : Dev nD) (d : Dir) (h : Fin 8) (q : Fin 4) (s : PosShare TreeShare) (g : BC F)
    (M : Memref sig .tc .vmem S32x2048 .bf16) (hM : M = pieceM (d, h, q)) :
    ∃ fs : Buf (Elt F) (M.view.loc (c : Thread nD τ)),
      (strPts c d (pset h q) s g : sProp 𝕄) = (M.view.loc (c : Thread nD τ) ↦[M.view.set]{s} fs)
      ∧ ∀ j, M.view.read (Elt F) fs j = g (pieceEmb h q j) := by
  subst hM
  cases d
  · exact ⟨g, by rw [piece_set_cw]; rfl, fun j => rfl⟩
  · exact ⟨g, by rw [piece_set_ccw]; rfl, fun j => rfl⟩

/-- Rows of the device's block read, as a first copy's source. -/
theorem xPiece_src (c : Dev nD) (q : Fin 4) (s : PosShare TreeShare) (g : XC F)
    (M : Memref sig .tc .vmem S32x2048 .bf16) (hM : M = xPieceM q) :
    ∃ fs : Buf (Elt F) (M.view.loc (c : Thread nD τ)),
      (xPts c (xset q) s g : sProp 𝕄) = (M.view.loc (c : Thread nD τ) ↦[M.view.set]{s} fs)
      ∧ ∀ j, M.view.read (Elt F) fs j = g (xEmb q j) := by
  subst hM
  exact ⟨g, by rw [xPiece_set]; rfl, fun j => rfl⟩

/-- A copy's source as its program names it, and what the copy of it leaves in the piece on the neighbour. -/
theorem src_pts (xs : Dev nD → XC F) (c : Dev nD) (p : Copy) :
    ∃ (s : PosShare TreeShare) (fs : Buf (Elt F) ((srcM p).view.loc (c : Thread nD τ))),
      (srcPts xs c p : sProp 𝕄) = ((srcM p).view.loc (c : Thread nD τ) ↦[(srcM p).view.set]{s} fs)
      ∧ ∀ fd : Buf (Elt F) ((pieceM p).view.loc (nbr p.1 c : Thread nD τ)),
        ((pieceM p).view.loc (nbr p.1 c : Thread nD τ) ↦[(pieceM p).view.set]{fullShare}
            (pieceM p).view.write (Elt F) fd ((srcM p).view.read (Elt F) fs) Finset.univ : sProp 𝕄)
          = strPts (nbr p.1 c) p.1 (pset p.2.1 p.2.2) fullShare (land xs (nbr p.1 c) p.1) := by
  obtain ⟨d, ⟨_ | k, hk⟩, q⟩ := p
  · obtain ⟨fs, h1, h2⟩ := xPiece_src c q (xShare d) (xs c) (srcM (d, ⟨0, hk⟩, q)) rfl
    exact ⟨_, fs, h1, fun fd => piece_write d ⟨0, hk⟩ q _ _ _ _ (fun j => (land_first xs c d q j).trans (h2 j).symm) fd⟩
  · obtain ⟨fs, h1, h2⟩ := piece_src c d ⟨k, by omega⟩ q fullShare.right (land xs c d) (srcM (d, ⟨k + 1, hk⟩, q)) rfl
    exact ⟨_, fs, h1, fun fd => piece_write d ⟨k + 1, hk⟩ q _ _ _ _
      (fun j => (land_later xs c d ⟨k, by omega⟩ ⟨k + 1, hk⟩ rfl q j).trans (h2 j).symm) fd⟩

end Cert.KernelIdealProof

end
-- ==== Proof.KernelIdeal.Protocol.lean ====
/-
# The protocol

Every device has a barrier cell and, for each copy, a send cell and a receive cell. A barrier cell is paid twice, by each
neighbour once; the neighbour's payment hands over that neighbour's pieces the device will copy into. A send cell is paid
when its copy's source is read, and hands the source back; a receive cell is paid when the copy lands, and hands over the
piece with what landed in it. A device owes its neighbours' barriers one unit each and the landings of all its copies.
Waits respect levels: staging and send cells lowest, then the barrier, then the receive cells by hop.
-/
module

public import proofs.«01_k».proof.Proof.KernelIdeal.Memory

@[expose] public section

noncomputable section

namespace Cert.KernelIdealProof

open Cert.KernelIdeal Cert.KernelIdeal.Gen Cert.AllGather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- A device's cells: the barrier, and of each copy the send cell (`false`) and the receive cell (`true`). -/
abbrev CellId := Unit ⊕ (Bool × Copy)

/-- The kernel's own semaphores. -/
def dsem : Bool × Copy → DmaSem sig
  | (false, p) => sendS p
  | (true, p) => recvS p
def csem : CellId → SemLoc sig
  | .inl _ => .reg barS
  | .inr k => .dma (dsem k)

abbrev cellAt (c : Dev nD) (k : CellId) : GSem nD τ sig := ((c : Thread nD τ), csem k)
abbrev barCell (c : Dev nD) : GSem nD τ sig := ((c : Thread nD τ), .reg barS)
abbrev sendCell (c : Dev nD) (p : Copy) : GSem nD τ sig := ((c : Thread nD τ), .dma (sendS p))
abbrev recvCell (c : Dev nD) (p : Copy) : GSem nD τ sig := ((c : Thread nD τ), .dma (recvS p))

theorem dsem_val (k : Bool × Copy) : (dsem k).val = (dsem (false, .cw, 0, 0)).val
    + 64 * (match k.2.1 with | .cw => 0 | .ccw => 1) + 32 * (if k.1 then 1 else 0) + 4 * k.2.2.1.val + k.2.2.2.val := by
  revert k; decide +kernel

theorem dsem_injective : Function.Injective dsem := by
  rintro ⟨b, d, h, q⟩ ⟨b', d', h', q'⟩ he
  have hv := (dsem_val (b, d, h, q)).symm.trans ((congrArg Fin.val he).trans (dsem_val (b', d', h', q')))
  have hh := h.isLt; have hh' := h'.isLt; have hq := q.isLt; have hq' := q'.isLt
  have : b = b' ∧ d = d' ∧ h.val = h'.val ∧ q.val = q'.val := by
    cases b <;> cases b' <;> cases d <;> cases d' <;> simp at hv ⊢ <;> omega
  obtain ⟨rfl, rfl, h1, h2⟩ := this
  obtain rfl := Fin.ext h1
  obtain rfl := Fin.ext h2
  rfl

theorem csem_injective : Function.Injective csem := by
  rintro (u | k) (u' | k') h
  · rfl
  · cases h
  · cases h
  · exact congrArg Sum.inr (dsem_injective (by simpa [csem] using h))

/-- Which of a device's cells a semaphore is. -/
def decode (sm : SemLoc sig) : Option CellId := by
  classical exact if h : ∃ k, csem k = sm then some h.choose else none

theorem decode_csem (k : CellId) : decode (csem k) = some k := by
  have h : ∃ k', csem k' = csem k := ⟨k, rfl⟩
  unfold decode
  rw [dif_pos h]
  exact congrArg some (csem_injective h.choose_spec)

theorem decode_none (sm : SemLoc sig) (h : ∀ k, csem k ≠ sm) : decode sm = none := by
  unfold decode
  exact dif_neg fun ⟨k, hk⟩ => h k hk

/-- What a copy credits: the bytes of its 32 rows. -/
abbrev N : ℕ := (xPieceM 0).view.dmaCredit
theorem N_pos : 0 < N := View.dmaCredit_pos _ (by decide)
theorem piece_credit (p : Copy) : (pieceM p).view.dmaCredit = N := by
  obtain ⟨d, h, q⟩ := p; cases d <;> rfl
theorem src_credit (p : Copy) : (srcM p).view.dmaCredit = N := by
  obtain ⟨d, ⟨_ | k, hk⟩, q⟩ := p
  · rfl
  · exact piece_credit (d, ⟨k, by omega⟩, q)

/-! ## The schedule of rounds -/

/-- The rows a hop's rows stand for. -/
abbrev HQ := Fin 8 × Fin 4

/-- The pieces of direction `d`'s buffer on device `c` that copies land in, whatever they hold. -/
def landing (c : Dev nD) (d : Dir) : sProp 𝕄 :=
  bigSep Finset.univ fun hq : HQ => if (d, hq) ∈ U then iprop(∃ g : BC F, strPts c d (pset hq.1 hq.2) fullShare g) else iprop(emp)

variable (xs : Dev nD → XC F)

/-- What a landed copy hands over. -/
def recvPay (c : Dev nD) (p : Copy) : sProp 𝕄 := strPts c p.1 (pset p.2.1 p.2.2) fullShare (land xs c p.1)

instance landing_storable (c : Dev nD) (d : Dir) : BI.Storable (upEmb : UEmb _ 𝕄) (landing (F := F) c d) := by
  unfold landing
  have (hq : HQ) : BI.Storable (upEmb : UEmb _ 𝕄) (if (d, hq) ∈ U then iprop(∃ g : BC F, strPts c d (pset hq.1 hq.2) fullShare g) else iprop(emp)) := by
    split <;> infer_instance
  infer_instance
instance recvPay_storable (c : Dev nD) (p : Copy) : BI.Storable (upEmb : UEmb _ 𝕄) (recvPay xs c p) := by unfold recvPay; infer_instance

/-- What a cell's round has to be paid by: a barrier's by both neighbours, a used copy's cells' once. -/
def cellDuties : Option CellId → Finset Dir
  | some (.inl _) => Finset.univ
  | some (.inr (_, p)) => if p ∈ U then {Dir.cw} else ∅
  | none => ∅
/-- What the payment hands over. -/
def cellPay (c : Dev nD) (d : Dir) : Option CellId → sProp 𝕄
  | some (.inl _) => landing (nbr d c) d
  | some (.inr (true, p)) => recvPay xs c p
  | some (.inr (false, p)) => srcPts xs c p
  | none => iprop(emp)

instance cellPay_storable (c : Dev nD) (d : Dir) (k : Option CellId) : BI.Storable (upEmb : UEmb _ 𝕄) (cellPay xs c d k) := by
  rcases k with _ | _ | ⟨_ | _, p⟩ <;> (unfold cellPay; infer_instance)

def ringRd : Rounds.Schedule (GSem nD τ sig) Dir 𝕄 where
  duties g r := if r = 0 ∧ g.1.2 = .tc then cellDuties (decode g.2) else ∅
  unitless _ := False
  amount g _ _ := if g.2 = .reg barS then 1 else N
  payload g _ d := cellPay xs g.1.1 d (decode g.2)
  amount_pos g _ _ _ := by
    by_cases h : g.2 = .reg barS
    · rw [if_pos h]; exact Nat.one_pos
    · rw [if_neg h]; exact N_pos

instance ringRd_payload_storable (g : GSem nD τ sig) (r : ℕ) (d : Dir) :
    BI.Storable (upEmb : UEmb _ 𝕄) ((ringRd xs).payload g r d) := by
  show BI.Storable upEmb (cellPay xs g.1.1 d (decode g.2)); infer_instance

section Sched
variable (c : Dev nD) (p : Copy)

theorem duties_at (k : CellId) : (ringRd xs).duties (cellAt c k) 0 = cellDuties (some k) := by
  dsimp only [ringRd]
  rw [if_pos ⟨rfl, rfl⟩, decode_csem]
theorem payload_at (k : CellId) (r : ℕ) (d : Dir) : (ringRd xs).payload (cellAt c k) r d = cellPay xs c d (some k) := by
  show cellPay xs c d (decode (csem k)) = _
  rw [decode_csem]
theorem duties_later (g : GSem nD τ sig) : ∀ r, 1 ≤ r → (ringRd xs).duties g r = ∅ :=
  fun r hr => by dsimp only [ringRd]; exact if_neg fun h => by omega
theorem duties_bar : (ringRd xs).duties (barCell c) 0 = Finset.univ := duties_at xs c (.inl ())
theorem duties_dma (b : Bool) (hp : p ∈ U) : (ringRd xs).duties (cellAt c (.inr (b, p))) 0 = {Dir.cw} :=
  (duties_at xs c _).trans (if_pos hp)
theorem duties_unused (b : Bool) (hp : p ∉ U) : ∀ r, 0 ≤ r → (ringRd xs).duties (cellAt c (.inr (b, p))) r = ∅ := fun r _ => by
  rcases Nat.eq_zero_or_pos r with rfl | h
  · exact (duties_at xs c _).trans (if_neg hp)
  · exact duties_later xs _ r h
theorem amount_bar (d : Dir) : (ringRd xs).amount (barCell c) 0 d = 1 := by dsimp only [ringRd]; exact if_pos rfl
theorem amount_dma (b : Bool) (d : Dir) : (ringRd xs).amount (cellAt c (.inr (b, p))) 0 d = N := by
  dsimp only [ringRd]; exact if_neg fun h => by cases h
theorem expect_bar : (ringRd xs).expect (barCell c) 0 = 2 := by
  unfold Schedule.expect Schedule.amountOf
  rw [duties_bar, Finset.sum_congr rfl fun d _ => amount_bar xs c d]; rfl
theorem expect_dma (b : Bool) (hp : p ∈ U) : (ringRd xs).expect (cellAt c (.inr (b, p))) 0 = N := by
  unfold Schedule.expect Schedule.amountOf; rw [duties_dma xs c p b hp, Finset.sum_singleton, amount_dma]
theorem expect_send (hp : p ∈ U) : (ringRd xs).expect (sendCell c p) 0 = N := expect_dma xs c p false hp
theorem expect_recv (hp : p ∈ U) : (ringRd xs).expect (recvCell c p) 0 = N := expect_dma xs c p true hp
theorem rest_bar : bigSep ((ringRd xs).duties (barCell c) 0 \ ∅) (fun d => (ringRd xs).payload (barCell c) 0 d)
    = bigSep Finset.univ fun d : Dir => landing (F := F) (nbr d c) d := by
  rw [Finset.sdiff_empty, duties_bar]
  exact bigSep_congr fun d _ => payload_at xs c (.inl ()) 0 d
theorem rest_send (hp : p ∈ U) : bigSep ((ringRd xs).duties (sendCell c p) 0 \ ∅) (fun d => (ringRd xs).payload (sendCell c p) 0 d) = srcPts xs c p := by
  rw [Finset.sdiff_empty, show (ringRd xs).duties (sendCell c p) 0 = {Dir.cw} from duties_dma xs c p false hp, bigSep_singleton]
  exact payload_at xs c (.inr (false, p)) 0 _
theorem rest_recv (hp : p ∈ U) : bigSep ((ringRd xs).duties (recvCell c p) 0 \ ∅) (fun d => (ringRd xs).payload (recvCell c p) 0 d) = recvPay xs c p := by
  rw [Finset.sdiff_empty, show (ringRd xs).duties (recvCell c p) 0 = {Dir.cw} from duties_dma xs c p true hp, bigSep_singleton]
  exact payload_at xs c (.inr (true, p)) 0 _

end Sched

/-! ## What a device owes, and the levels -/

/-- After `n` actions a device owes the landings of the copies it has not started; -/
def O (c : Dev nD) (n : ℕ) : CellTallies nD τ sig Unit :=
  ∑ p ∈ U.filter (fun p => n ≤ tSend p), tallyAt (recvCell (nbr p.1 c) p) () N
/-- at launch, besides, a unit to each neighbour's barrier, the one on the left first. -/
def O₁ (c : Dev nD) : CellTallies nD τ sig Unit := O c 0 + tallyAt (barCell (nbr .cw c)) () 1
def O₀ (c : Dev nD) : CellTallies nD τ sig Unit := O₁ c + tallyAt (barCell (nbr .ccw c)) () 1

/-- Starting a copy pays its landing's debt. -/
theorem O_send (c : Dev nD) {n : ℕ} (hn : n < acts.length) {p : Copy} (h : acts[n] = .send p) :
    O c n = O c (n + 1) + tallyAt (recvCell (nbr p.1 c) p) () N := by
  have ht := tSend_at hn h
  have hU := U_at_send hn h
  have hset : U.filter (fun p' => n ≤ tSend p') = insert p (U.filter (fun p' => n + 1 ≤ tSend p')) := by
    ext p'
    simp only [Finset.mem_filter, Finset.mem_insert]
    constructor
    · rintro ⟨hp', hle⟩
      rcases Nat.lt_or_eq_of_le hle with h' | h'
      · exact Or.inr ⟨hp', h'⟩
      · refine Or.inl ?_
        have := (at_idxOf hn h'.symm).symm.trans h
        simpa using this
    · rintro (rfl | ⟨hp', hle⟩)
      · exact ⟨hU, by omega⟩
      · exact ⟨hp', by omega⟩
  unfold O
  rw [hset, Finset.sum_insert (by simp; omega), add_comm]
/-- Any other action leaves what is owed. -/
theorem O_other (c : Dev nD) {n : ℕ} (hn : n < acts.length) (h : ∀ p, acts[n] ≠ .send p) : O c n = O c (n + 1) := by
  unfold O
  refine Finset.sum_congr (Finset.filter_congr fun p _ => ?_) fun _ _ => rfl
  have : tSend p ≠ n := fun e => h p (at_idxOf hn e)
  omega

theorem O_pos {c : Dev nD} {n : ℕ} {g : GSem nD τ sig} {u : Unit} (h : 0 < O c n g u) :
    ∃ p ∈ U, n ≤ tSend p ∧ g = recvCell (nbr p.1 c) p := by
  by_contra hn
  push Not at hn
  have : O c n g u = 0 := by
    unfold O
    rw [Finset.sum_apply, Finsupp.finset_sum_apply]
    refine Finset.sum_eq_zero fun p hp => ?_
    rw [Finset.mem_filter] at hp
    rw [tallyAt_apply, if_neg fun h' => hn p hp.1 hp.2 h'.1]
  omega

theorem O₀_pos {c : Dev nD} {g : GSem nD τ sig} {u : Unit} (h : 0 < O₀ c g u) :
    (∃ p ∈ U, g = recvCell (nbr p.1 c) p) ∨ ∃ d, g = barCell (nbr d c) := by
  unfold O₀ O₁ at h
  rw [Pi.add_apply, Finsupp.add_apply, Pi.add_apply, Finsupp.add_apply, tallyAt_apply, tallyAt_apply] at h
  by_cases h0 : 0 < O c 0 g u
  · obtain ⟨p, hp, -, e⟩ := O_pos h0; exact Or.inl ⟨p, hp, e⟩
  · right
    by_contra hn
    push Not at hn
    rw [if_neg (fun h' => hn _ h'.1), if_neg (fun h' => hn _ h'.1)] at h
    omega

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- A cell's level. -/
def lvOf : Option CellId → ℕ
  | some (.inl _) => 1
  | some (.inr (true, p)) => 2 + p.2.1.val
  | _ => 0
def lv (g : GSem nD τ sig) (_ : Unit) : ℕ := lvOf (decode g.2)
theorem lv_at (c : Dev nD) (k : CellId) (u : Unit) : lv (cellAt c k) u = lvOf (some k) := by
  show lvOf (decode (csem k)) = _; rw [decode_csem]

/-- A wait is allowed whose level is below everything owed. -/
theorem mayWait_of (c : Dev nD) (sm : SemLoc sig) (D : CellTallies nD τ sig Unit)
    (hD : ∀ g u, 0 < D g u → ∃ (c' : Dev nD) (k : CellId), g = cellAt c' k ∧ lv ((c : Thread nD τ), sm) () < lvOf (some k)) :
    (levAts L lv : sProp 𝕄) ⊢ MayWait (c : Thread nD τ) sm () D :=
  MayOwe.of_cut (L := L) (lev := lv) (lv ((c : Thread nD τ), sm) ())
    (fun p hp => by rw [Finset.mem_singleton.mp hp, L_tc]; exact Finset.mem_singleton_self _)
    (fun g u hg => by obtain ⟨c', k, rfl, -⟩ := hD g u hg; exact Finset.mem_singleton_self _)
    (fun p hp => by rw [Finset.mem_singleton.mp hp])
    (fun g u hg => by obtain ⟨c', k, rfl, h⟩ := hD g u hg; rw [lv_at]; exact h)

/-- The waits on the windows' staging semaphores. -/
theorem mayWait_stage (c : Dev nD) (q : DmaSem sig) (hq : ∀ k, dsem k ≠ q) (D : CellTallies nD τ sig Unit) (hD : D = O₀ c ∨ D = 0) :
    (levAts L lv : sProp 𝕄) ⊢ MayWait (c : Thread nD τ) (.dma q) () D := by
  have hl : lv ((c : Thread nD τ), .dma q) () = 0 := by
    show lvOf (decode (.dma q)) = 0
    rw [decode_none]
    · rfl
    · rintro (u | k) h
      · cases h
      · exact hq k (by simpa [csem] using h)
  refine mayWait_of c _ D fun g u hg => ?_
  rw [hl]
  rcases hD with rfl | rfl
  · rcases O₀_pos hg with ⟨p, -, rfl⟩ | ⟨d, rfl⟩
    · exact ⟨_, .inr (true, p), rfl, by simp [lvOf]⟩
    · exact ⟨_, .inl (), rfl, by simp [lvOf]⟩
  · exact absurd hg (Nat.lt_irrefl 0)

/-- At the barrier a device owes landings only. -/
theorem mayWait_bar (c : Dev nD) : (levAts L lv : sProp 𝕄) ⊢ MayWait (c : Thread nD τ) (.reg barS) () (O c 0) :=
  mayWait_of c (csem (.inl ())) _ fun g u hg => by
    obtain ⟨p, -, -, rfl⟩ := O_pos hg
    exact ⟨_, .inr (true, p), rfl, by rw [lv_at]; simp [lvOf]; omega⟩

/-- A landing is waited for when only later hops' copies are to be started. -/
theorem mayWait_recv (c : Dev nD) {n : ℕ} (hn : n < acts.length) {p : Copy} (h : acts[n] = .recv p) :
    (levAts L lv : sProp 𝕄) ⊢ MayWait (c : Thread nD τ) (.dma (recvS p)) () (O c n) :=
  mayWait_of c (csem (.inr (true, p))) _ fun g u hg => by
    obtain ⟨p', hp', hs, rfl⟩ := O_pos hg
    have := later_at hn h p' hp' hs
    exact ⟨_, .inr (true, p'), rfl, by rw [lv_at]; simp [lvOf]; omega⟩

/-- A send is waited for whatever landings are owed. -/
theorem mayWait_send (c : Dev nD) (n : ℕ) (p : Copy) :
    (levAts L lv : sProp 𝕄) ⊢ MayWait (c : Thread nD τ) (.dma (sendS p)) () (O c n) :=
  mayWait_of c (csem (.inr (false, p))) _ fun g u hg => by
    obtain ⟨p', -, -, rfl⟩ := O_pos hg
    exact ⟨_, .inr (true, p'), rfl, by rw [lv_at]; simp [lvOf]⟩

end Cert.KernelIdealProof

end
-- ==== Proof.KernelIdeal.State.lean ====
/-
# What a device holds after its first `n` actions

The state between two actions, as families over the copies: of each copy its sender's side and its receiver's side, of each
source the share copies read while the device holds it, of each direction's buffer the rows that have arrived, the device's
own block and `w`, and the result with the products of the first `n` actions written into it.
-/
module

public import proofs.«01_k».proof.Proof.KernelIdeal.Protocol

@[expose] public section

noncomputable section

namespace Cert.KernelIdealProof

open Cert.KernelIdeal Cert.KernelIdeal.Gen Cert.AllGather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The result's contents -/

abbrev WC (F : FTy → Type) [FloatOps F] : Type := S2048x128.Idx → Elt F .bf16
abbrev OC (F : FTy → Type) [FloatOps F] : Type := S2048x128.Idx → Elt F .f32

/-- What an action does to the result. -/
def outStep (xs : Dev nD → XC F) (w : WC F) (c : Dev nD) (f : OC F) : Act → OC F
  | .home => (oM.access (rHome c)).write (Elt F) f (k0_pay1 (xs c) w) Finset.univ
  | .block .cw h => (oM.access (rBlock c h .cw)).write (Elt F) f (k0_pay2 (fun j => land xs c .cw ((rSlot h).emb j)) w) Finset.univ
  | .block .ccw h => (oM.access (rBlock c h .ccw)).write (Elt F) f (k0_pay2 (fun j => land xs c .ccw ((rSlot h).emb j)) w) Finset.univ
  | .half .cw => (oM.access (rAnti c .cw)).write (Elt F) f (k0_pay18 (fun j => land xs c .cw ((rHalf .cw).emb j)) w) Finset.univ
  | .half .ccw => (oM.access (rAnti c .ccw)).write (Elt F) f (k0_pay19 (fun j => land xs c .ccw ((rHalf .ccw).emb j)) w) Finset.univ
  | _ => f
/-- The result after `n` actions, from `f`. -/
def outAfter (xs : Dev nD → XC F) (w : WC F) (c : Dev nD) (f : OC F) (n : ℕ) : OC F := (acts.take n).foldl (outStep xs w c) f

theorem outAfter_succ (xs : Dev nD → XC F) (w : WC F) (c : Dev nD) (f : OC F) {n : ℕ} (hn : n < acts.length) :
    outAfter xs w c f (n + 1) = outStep xs w c (outAfter xs w c f n) acts[n] := by
  unfold outAfter
  rw [List.take_succ_eq_append_getElem hn, List.foldl_append]; rfl

/-! ## The families -/

section
variable (xs : Dev nD → XC F) (w : WC F) (c : Dev nD) (n : ℕ)

/-- A copy's sender's side: before its start the piece on the neighbour and the duties to pay, while it is under way the
    credit its wait spends, after the wait the closed cell. -/
def sendSt (p : Copy) : sProp 𝕄 :=
  if n ≤ tSend p then
    iprop((∃ g : BC F, strPts (nbr p.1 c) p.1 (pset p.2.1 p.2.2) fullShare g) ∗ dutyTok ER (sendCell c p) 0 Dir.cw
      ∗ dutyTok ER (recvCell (nbr p.1 c) p) 0 Dir.cw ∗ atPos ER (sendCell c p) 0 ∅ 0)
  else if n ≤ tWait p then iprop(cred (tallyAt (sendCell c p) () N) ∗ atPos ER (sendCell c p) 0 ∅ 0)
  else iprop(semVal (sendCell c p) 0)
/-- A copy's receiver's side: the credit its wait spends, then the closed cell. -/
def recvSt (p : Copy) : sProp 𝕄 :=
  if n ≤ tRecv p then iprop(cred (tallyAt (recvCell c p) () N) ∗ atPos ER (recvCell c p) 0 ∅ 0) else iprop(semVal (recvCell c p) 0)
/-- The share of a source copies read. -/
def slotPts : Slot → sProp 𝕄
  | (d, ⟨0, _⟩, q) => xPts c (xset q) (xShare d) (xs c)
  | (d, ⟨k + 1, hk⟩, q) => strPts c d (pset ⟨k, by omega⟩ q) fullShare.right (land xs c d)
def slotSt (s : Slot) : sProp 𝕄 := if held n s then slotPts xs c s else iprop(emp)

/-- The rows of a direction's buffer that have arrived. -/
def rcvSet (d : Dir) : Finset S8x128x2048.Idx :=
  (Finset.univ.filter fun hq : HQ => tRecv (d, hq) < n).biUnion fun hq => pset hq.1 hq.2

def Sends : sProp 𝕄 := bigSep U fun p => sendSt c n p
def Recvs : sProp 𝕄 := bigSep U fun p => recvSt c n p
def Slots : sProp 𝕄 := bigSep Finset.univ fun s : Slot => slotSt xs c n s
def Strands : sProp 𝕄 := bigSep Finset.univ fun d : Dir => strPts c d (rcvSet n d) fullShare.left (land xs c d)

/-- The device's own block's share that multiplications read, `w`, and the result. -/
def wPts : sProp 𝕄 := ((c : Thread nD τ).loc cc0_stg1_0) ↦{fullShare} w
def outPts (f : OC F) : sProp 𝕄 := ((c : Thread nD τ).loc cc0_stg2_0) ↦{fullShare} f
def Owing : sProp 𝕄 := iprop(∃ W, owes (c : Thread nD τ) (O c n) W)

/-- The state after `n` actions, the result having started from `f`. -/
def St (f : OC F) : sProp 𝕄 :=
  iprop(Sends c n ∗ Recvs c n ∗ Slots xs c n ∗ Strands xs c n ∗ xPts c Finset.univ fullShare.left (xs c) ∗ wPts w c
    ∗ outPts c (outAfter xs w c f n) ∗ Owing c n)
end

theorem srcPts_slot (xs : Dev nD → XC F) (c : Dev nD) (p : Copy) : (srcPts xs c p : sProp 𝕄) = slotPts xs c (slotOf p) := by
  obtain ⟨d, ⟨_ | k, hk⟩, q⟩ := p <;> rfl

theorem strPts_next (xs : Dev nD → XC F) (c : Dev nD) (p : Copy) :
    (slotPts xs c (nextSlot p) : sProp 𝕄) = strPts c p.1 (pset p.2.1 p.2.2) fullShare.right (land xs c p.1) := rfl

/-! ## How the families change -/

/-- Take one member out of a family; give back its successor, the others unchanged. -/
theorem bigSep_step {I : Type} [DecidableEq I] (S : Finset I) (i : I) (hi : i ∈ S) (Φ Ψ : I → sProp 𝕄) (h : ∀ j ∈ S, j ≠ i → Φ j = Ψ j) :
    bigSep S Φ ⊢ iprop(Φ i ∗ (Ψ i -∗ bigSep S Ψ)) := by
  rw [show bigSep S Φ = iprop(Φ i ∗ bigSep (S.erase i) Φ) from bigSep_erase hi, show bigSep S Ψ = iprop(Ψ i ∗ bigSep (S.erase i) Ψ) from bigSep_erase hi,
    bigSep_congr (s := S.erase i) (Φ := Φ) (Ψ := Ψ) fun j hj => h j (Finset.mem_of_mem_erase hj) (Finset.ne_of_mem_erase hj)]
  iintro ⟨H1, H2⟩
  isplitl [H1]; · iexact H1
  iintro H
  isplitl [H] <;> iassumption

section
variable (xs : Dev nD → XC F) (w : WC F) (c : Dev nD) {n : ℕ} (hn : n < acts.length)
include hn

theorem sendSt_other (p : Copy) (h1 : acts[n] ≠ .send p) (h2 : acts[n] ≠ .wait p) : (sendSt c n p : sProp 𝕄) = sendSt c (n + 1) p := by
  have e1 : tSend p ≠ n := fun e => h1 (at_idxOf hn e)
  have e2 : tWait p ≠ n := fun e => h2 (at_idxOf hn e)
  unfold sendSt
  simp only [show (n ≤ tSend p) = (n + 1 ≤ tSend p) from propext (by omega), show (n ≤ tWait p) = (n + 1 ≤ tWait p) from propext (by omega)]
theorem recvSt_other (p : Copy) (h1 : acts[n] ≠ .recv p) : (recvSt c n p : sProp 𝕄) = recvSt c (n + 1) p := by
  have e1 : tRecv p ≠ n := fun e => h1 (at_idxOf hn e)
  unfold recvSt
  simp only [show (n ≤ tRecv p) = (n + 1 ≤ tRecv p) from propext (by omega)]
theorem slotSt_other (s : Slot) (h1 : ∀ p, acts[n] = .send p → slotOf p ≠ s) (h2 : ∀ p, acts[n] = .wait p → slotOf p ≠ s)
    (h3 : ∀ p, acts[n] = .recv p → nextSlot p ≠ s) : (slotSt xs c n s : sProp 𝕄) = slotSt xs c (n + 1) s := by
  unfold slotSt
  simp only [show (held n s) = (held (n + 1) s) from propext (held_iff hn s h1 h2 h3)]

theorem Sends_other (h1 : ∀ p, acts[n] ≠ .send p) (h2 : ∀ p, acts[n] ≠ .wait p) : (Sends c n : sProp 𝕄) = Sends c (n + 1) :=
  bigSep_congr fun p _ => sendSt_other c hn p (h1 p) (h2 p)
theorem Recvs_other (h1 : ∀ p, acts[n] ≠ .recv p) : (Recvs c n : sProp 𝕄) = Recvs c (n + 1) :=
  bigSep_congr fun p _ => recvSt_other c hn p (h1 p)
theorem Slots_other (h1 : ∀ p, acts[n] ≠ .send p) (h2 : ∀ p, acts[n] ≠ .wait p) (h3 : ∀ p, acts[n] ≠ .recv p) :
    (Slots xs c n : sProp 𝕄) = Slots xs c (n + 1) :=
  bigSep_congr fun s _ => slotSt_other xs c hn s (fun p h => absurd h (h1 p)) (fun p h => absurd h (h2 p)) (fun p h => absurd h (h3 p))
theorem rcvSet_other (d : Dir) (h : ∀ p, acts[n] = .recv p → p.1 ≠ d) : rcvSet n d = rcvSet (n + 1) d := by
  unfold rcvSet
  congr 1
  refine Finset.filter_congr fun hq _ => ?_
  have e1 : tRecv (d, hq) ≠ n := fun e => h _ (at_idxOf hn e) rfl
  omega
theorem Strands_other (h1 : ∀ p, acts[n] ≠ .recv p) : (Strands xs c n : sProp 𝕄) = Strands xs c (n + 1) :=
  bigSep_congr fun d _ => by rw [rcvSet_other hn d fun p h => absurd h (h1 p)]
theorem Owing_other (h1 : ∀ p, acts[n] ≠ .send p) : (Owing c n : sProp 𝕄) = Owing c (n + 1) := by
  unfold Owing; rw [O_other c hn h1]

/-- A copy's start: its side and its source are taken out, what it leaves is put back. -/
theorem Sends_send {p : Copy} (h : acts[n] = .send p) :
    (Sends c n : sProp 𝕄) ⊢ iprop(((∃ g : BC F, strPts (nbr p.1 c) p.1 (pset p.2.1 p.2.2) fullShare g) ∗ dutyTok ER (sendCell c p) 0 Dir.cw
      ∗ dutyTok ER (recvCell (nbr p.1 c) p) 0 Dir.cw ∗ atPos ER (sendCell c p) 0 ∅ 0)
      ∗ (iprop(cred (tallyAt (sendCell c p) () N) ∗ atPos ER (sendCell c p) 0 ∅ 0) -∗ Sends c (n + 1))) := by
  have ht := tSend_at hn h
  have hw := tSend_lt_tWait p (U_at_send hn h)
  have H := bigSep_step U p (U_at_send hn h) (sendSt (F := F) c n) (sendSt c (n + 1)) fun j _ hj =>
    sendSt_other c hn j (fun e => hj (by rw [h] at e; simpa using e.symm)) (fun e => by rw [h] at e; simp at e)
  rw [show (sendSt c n p : sProp 𝕄) = _ from if_pos ht.ge,
    show (sendSt c (n + 1) p : sProp 𝕄) = _ from (if_neg (by omega)).trans (if_pos (by omega))] at H
  exact H
theorem Sends_wait {p : Copy} (h : acts[n] = .wait p) :
    (Sends c n : sProp 𝕄) ⊢ iprop((cred (tallyAt (sendCell c p) () N) ∗ atPos ER (sendCell c p) 0 ∅ 0)
      ∗ (iprop(semVal (sendCell c p) 0) -∗ Sends c (n + 1))) := by
  have ht := tWait_at hn h
  have hw := tSend_lt_tWait p (U_at_wait hn h)
  have H := bigSep_step U p (U_at_wait hn h) (sendSt (F := F) c n) (sendSt c (n + 1)) fun j _ hj =>
    sendSt_other c hn j (fun e => by rw [h] at e; simp at e) (fun e => hj (by rw [h] at e; simpa using e.symm))
  rw [show (sendSt c n p : sProp 𝕄) = _ from (if_neg (by omega)).trans (if_pos ht.ge),
    show (sendSt c (n + 1) p : sProp 𝕄) = _ from (if_neg (by omega)).trans (if_neg (by omega))] at H
  exact H
theorem Recvs_recv {p : Copy} (h : acts[n] = .recv p) :
    (Recvs c n : sProp 𝕄) ⊢ iprop((cred (tallyAt (recvCell c p) () N) ∗ atPos ER (recvCell c p) 0 ∅ 0)
      ∗ (iprop(semVal (recvCell c p) 0) -∗ Recvs c (n + 1))) := by
  have ht := tRecv_at hn h
  have H := bigSep_step U p (U_at_recv hn h) (recvSt (F := F) c n) (recvSt c (n + 1)) fun j _ hj =>
    recvSt_other c hn j (fun e => hj (by rw [h] at e; simpa using e.symm))
  rw [show (recvSt c n p : sProp 𝕄) = _ from if_pos ht.ge,
    show (recvSt c (n + 1) p : sProp 𝕄) = _ from if_neg (by omega)] at H
  exact H

theorem slotOf_injective (p p' : Copy) (h : slotOf p = slotOf p') : p = p' := by
  obtain ⟨d, k, q⟩ := p; obtain ⟨d', k', q'⟩ := p'
  simp only [slotOf, Prod.mk.injEq, Fin.castSucc_inj] at h
  obtain ⟨rfl, rfl, rfl⟩ := h; rfl

theorem Slots_send {p : Copy} (h : acts[n] = .send p) : (Slots xs c n : sProp 𝕄) ⊢ iprop(srcPts xs c p ∗ (emp -∗ Slots xs c (n + 1))) := by
  have H := bigSep_step Finset.univ (slotOf p) (Finset.mem_univ _) (slotSt (F := F) xs c n) (slotSt xs c (n + 1)) fun j _ hj =>
    slotSt_other xs c hn j (fun p' e => by rw [h] at e; obtain rfl : p = p' := by simpa using e
                                           exact hj.symm) (fun p' e => by rw [h] at e; simp at e) (fun p' e => by rw [h] at e; simp at e)
  rw [show (slotSt xs c n (slotOf p) : sProp 𝕄) = _ from if_pos (held_send hn h).1,
    show (slotSt xs c (n + 1) (slotOf p) : sProp 𝕄) = _ from if_neg (held_send hn h).2, ← srcPts_slot] at H
  exact H
theorem Slots_wait {p : Copy} (h : acts[n] = .wait p) : (Slots xs c n : sProp 𝕄) ⊢ iprop(emp ∗ (srcPts xs c p -∗ Slots xs c (n + 1))) := by
  have H := bigSep_step Finset.univ (slotOf p) (Finset.mem_univ _) (slotSt (F := F) xs c n) (slotSt xs c (n + 1)) fun j _ hj =>
    slotSt_other xs c hn j (fun p' e => by rw [h] at e; simp at e) (fun p' e => by rw [h] at e; obtain rfl : p = p' := by simpa using e
                                                                                   exact hj.symm) (fun p' e => by rw [h] at e; simp at e)
  rw [show (slotSt xs c n (slotOf p) : sProp 𝕄) = _ from if_neg (held_wait hn h).1,
    show (slotSt xs c (n + 1) (slotOf p) : sProp 𝕄) = _ from if_pos (held_wait hn h).2, ← srcPts_slot] at H
  exact H
theorem Slots_recv {p : Copy} (h : acts[n] = .recv p) :
    (Slots xs c n : sProp 𝕄) ⊢ iprop(emp ∗ (strPts c p.1 (pset p.2.1 p.2.2) fullShare.right (land xs c p.1) -∗ Slots xs c (n + 1))) := by
  have H := bigSep_step Finset.univ (nextSlot p) (Finset.mem_univ _) (slotSt (F := F) xs c n) (slotSt xs c (n + 1)) fun j _ hj =>
    slotSt_other xs c hn j (fun p' e => by rw [h] at e; simp at e) (fun p' e => by rw [h] at e; simp at e)
      (fun p' e => by rw [h] at e; obtain rfl : p = p' := by simpa using e
                      exact hj.symm)
  rw [show (slotSt xs c n (nextSlot p) : sProp 𝕄) = _ from if_neg (held_recv hn h).1,
    show (slotSt xs c (n + 1) (nextSlot p) : sProp 𝕄) = _ from if_pos (held_recv hn h).2, strPts_next] at H
  exact H

theorem rcvSet_recv {p : Copy} (h : acts[n] = .recv p) :
    rcvSet (n + 1) p.1 = rcvSet n p.1 ∪ pset p.2.1 p.2.2 ∧ Disjoint (rcvSet n p.1) (pset p.2.1 p.2.2) := by
  have ht := tRecv_at hn h
  constructor
  · unfold rcvSet
    have : (Finset.univ.filter fun hq : HQ => tRecv (p.1, hq) < n + 1) = insert p.2 (Finset.univ.filter fun hq : HQ => tRecv (p.1, hq) < n) := by
      ext hq
      simp only [Finset.mem_filter, Finset.mem_univ, true_and, Finset.mem_insert]
      constructor
      · intro hlt
        rcases Nat.lt_or_eq_of_le (Nat.le_of_lt_succ hlt) with h' | h'
        · exact Or.inr h'
        · left
          have e := (at_idxOf hn h').symm.trans h
          simp only [Act.recv.injEq] at e
          exact congrArg Prod.snd e
      · rintro (rfl | hlt)
        · have : tRecv (p.1, p.2) = n := ht
          omega
        · omega
    rw [this, Finset.biUnion_insert, Finset.union_comm]
  · unfold rcvSet
    rw [Finset.disjoint_biUnion_left]
    intro hq hm
    rw [Finset.mem_filter] at hm
    refine pset_disjoint _ _ _ _ fun e => ?_
    have : hq = p.2 := e
    subst this
    have : tRecv (p.1, p.2) = n := ht
    omega

theorem Strands_recv {p : Copy} (h : acts[n] = .recv p) :
    (Strands xs c n : sProp 𝕄) ⊢ iprop(strPts c p.1 (pset p.2.1 p.2.2) fullShare.left (land xs c p.1) -∗ Strands xs c (n + 1)) := by
  have H := bigSep_step Finset.univ p.1 (Finset.mem_univ _) (fun d => (strPts c d (rcvSet n d) fullShare.left (land xs c d) : sProp 𝕄))
    (fun d => strPts c d (rcvSet (n + 1) d) fullShare.left (land xs c d)) fun d _ hd => by
      rw [rcvSet_other hn d fun p' e => by rw [h] at e; obtain rfl : p = p' := by simpa using e
                                           exact hd.symm]
  rw [(rcvSet_recv hn h).1, strPts_union c p.1 _ _ _ _ (rcvSet_recv hn h).2] at H
  refine H.trans ?_
  unfold Strands
  iintro ⟨H1, H2⟩ H3
  iapply H2
  isplitl [H1] <;> iassumption

omit hn in
theorem Strands_at (n : ℕ) (d : Dir) :
    (Strands xs c n : sProp 𝕄) ⊢ iprop(strPts c d (rcvSet n d) fullShare.left (land xs c d)
      ∗ (strPts c d (rcvSet n d) fullShare.left (land xs c d) -∗ Strands xs c n)) :=
  bigSep_step Finset.univ d (Finset.mem_univ _) (fun d => (strPts c d (rcvSet n d) fullShare.left (land xs c d) : sProp 𝕄)) _ fun _ _ _ => rfl

end

end Cert.KernelIdealProof

end
-- ==== Proof.KernelIdeal.Steps.lean ====
/-
# One action

Each kind of action takes the state after `n` actions to the state after `n + 1`.
-/
module

public import proofs.«01_k».proof.Proof.KernelIdeal.State

@[expose] public section

noncomputable section

namespace Cert.KernelIdealProof

open Cert.KernelIdeal Cert.KernelIdeal.Gen Cert.AllGather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The body's program `k`, run on device `c`, establishes `Q`. -/
abbrev runs (c : Dev nD) (k : P₀ (F := F)) (Q : PUnit → sProp 𝕄) : sProp 𝕄 :=
  wp frame (wpE (defs₀ (F := F)) 𝒱₀ (c : Thread nD τ) none) Set.univ k Q

variable (xs : Dev nD → XC F) (w : WC F) (K : Dev nD × CellId → ℕ)

/-! ## The cells' invariants, and that every cell is at its first round -/

def records : sProp 𝕄 :=
  iprop((bigSep Finset.univ fun ck : Dev nD × CellId => cellInv ER (ringRd xs) (K ck) (cellAt ck.1 ck.2))
    ∗ bigSep Finset.univ fun ck : Dev nD × CellId => reached ER (cellAt ck.1 ck.2) 0)

instance records_persistent : BI.Persistent (records (F := F) xs K) := by unfold records; infer_instance

theorem inv_at (c : Dev nD) (k : CellId) : records (F := F) xs K ⊢ cellInv ER (ringRd xs) (K (c, k)) (cellAt c k) := by
  have h : (bigSep Finset.univ fun ck : Dev nD × CellId => (cellInv ER (ringRd xs) (K ck) (cellAt ck.1 ck.2) : sProp 𝕄))
      ⊢ cellInv ER (ringRd xs) (K (c, k)) (cellAt c k) := bigSep_elim (Finset.mem_univ (c, k))
  unfold records
  iintro ⟨H, -⟩
  iapply h; iexact H
theorem reached_at (c : Dev nD) (k : CellId) : records (F := F) xs K ⊢ reached ER (cellAt c k) 0 := by
  have h : (bigSep Finset.univ fun ck : Dev nD × CellId => (reached ER (cellAt ck.1 ck.2) 0 : sProp 𝕄)) ⊢ reached ER (cellAt c k) 0 :=
    bigSep_elim (Finset.mem_univ (c, k))
  unfold records
  iintro ⟨-, H⟩
  iapply h; iexact H

theorem inv_bar (c : Dev nD) : records (F := F) xs K ⊢ cellInv ER (ringRd xs) (K (c, .inl ())) (barCell c) := inv_at xs K c (.inl ())
theorem inv_send (c : Dev nD) (p : Copy) : records (F := F) xs K ⊢ cellInv ER (ringRd xs) (K (c, .inr (false, p))) (sendCell c p) :=
  inv_at xs K c (.inr (false, p))
theorem inv_recv (c : Dev nD) (p : Copy) : records (F := F) xs K ⊢ cellInv ER (ringRd xs) (K (c, .inr (true, p))) (recvCell c p) :=
  inv_at xs K c (.inr (true, p))
theorem reached_bar (c : Dev nD) : records (F := F) xs K ⊢ reached ER (barCell c) 0 := reached_at xs K c (.inl ())
theorem reached_send (c : Dev nD) (p : Copy) : records (F := F) xs K ⊢ reached ER (sendCell c p) 0 := reached_at xs K c (.inr (false, p))
theorem reached_recv (c : Dev nD) (p : Copy) : records (F := F) xs K ⊢ reached ER (recvCell c p) 0 := reached_at xs K c (.inr (true, p))

/-! ## A copy's start -/

/-- The rule for a copy at this protocol's cells, to `t`, the neighbour in its direction. -/
theorem wp_copy (c t : Dev nD) (p : Copy) (ht : t = nbr p.1 c) (hp : p ∈ U) (D : CellTallies nD τ sig Unit) (W : Waits sig Unit)
    (g : BC F) (k : P₀ (F := F)) (Q : PUnit → sProp 𝕄) :
    iprop(records xs K ∗ srcPts xs c p ∗ strPts (nbr p.1 c) p.1 (pset p.2.1 p.2.2) fullShare g
        ∗ owes (c : Thread nD τ) (D + tallyAt (recvCell (nbr p.1 c) p) () N) W
        ∗ dutyTok ER (sendCell c p) 0 Dir.cw ∗ dutyTok ER (recvCell (nbr p.1 c) p) 0 Dir.cw)
      ⊢ iprop(((cred (tallyAt (sendCell c p) () N) ∗ owes (c : Thread nD τ) D W) -∗ runs c k Q)
          -∗ runs c (.op (.enqueueDma (srcM p) (.remote (Dev.tc t) (pieceM p) (.dma (sendS p)) (piece_hsc p)) (.dma (recvS p))
              (src_exact p) (piece_exact p) ⟨⟨rfl, Or.inl rfl⟩, trivial⟩) fun _ => k) Q) := by
  subst ht
  obtain ⟨s, fs, hs, hland⟩ := src_pts xs c p
  obtain ⟨fd, hd⟩ := piece_pts p (nbr p.1 c) fullShare g
  rw [hd]
  iintro ⟨#HR, Hsrc, Hdst, Ho, Ht1, Ht2⟩ Hk
  ihave Hsrc' := (Entails.of_eq hs) $$ Hsrc
  iapply (Rounds.wp_send_pointsTo 𝒱₀ ER (ringRd xs) (c : Thread nD τ) none (κ₁ := K (c, .inr (false, p))) (κ₂ := K (nbr p.1 c, .inr (true, p)))
    (r₁ := 0) (r₂ := 0) (d₁ := Dir.cw) (d₂ := Dir.cw) (fs := fs) (fd := fd)
    (show Dir.cw ∈ (ringRd xs).duties (sendCell c p) 0 from (duties_dma xs c p false hp).symm ▸ Finset.mem_singleton_self _)
    (show Dir.cw ∈ (ringRd xs).duties (recvCell (nbr p.1 c) p) 0 from (duties_dma xs _ p true hp).symm ▸ Finset.mem_singleton_self _)
    () () N (piece_credit p) (amount_dma xs c p false _) (amount_dma xs (nbr p.1 c) p true _) D rfl (W := W)
    (by rw [← hs]; exact Entails.of_eq (payload_at xs c (.inr (false, p)) 0 _).symm)
    (by rw [hland]; exact Entails.of_eq (payload_at xs (nbr p.1 c) (.inr (true, p)) 0 _).symm)) $$ [Hsrc' Hdst Ho Ht1 Ht2]
  · isplitr; · iapply (inv_send xs K c p); iexact HR
    isplitr; · iapply (inv_recv xs K (nbr p.1 c) p); iexact HR
    isplitl [Hsrc']; · iexact Hsrc'
    isplitl [Hdst]; · iexact Hdst
    isplitl [Ho]; · iexact Ho
    isplitl [Ht1]; · iexact Ht1
    isplitr; · iapply (reached_send xs K c p); iexact HR
    isplitl [Ht2]; · iexact Ht2
    iapply (reached_recv xs K (nbr p.1 c) p); iexact HR
  iexact Hk

section
variable (c : Dev nD) {n : ℕ} (hn : n < acts.length) (f : OC F) (k : P₀ (F := F)) (Q : PUnit → sProp (MT nD τ sig Unit (Elt F) ℕ UU ℕ))

theorem step_send (p : Copy) (h : acts[n] = .send p) :
    iprop(records xs K ∗ levAts L lv ∗ St xs w c n f) ⊢ iprop((St xs w c (n + 1) f -∗ runs c k Q) -∗ runs c (actProg c k (.send p)) Q) := by
  have hU := U_at_send hn h
  unfold St
  rw [outAfter_succ xs w c f hn, h,
    ← Recvs_other c hn (fun p' e => by rw [h] at e; simp at e), ← Strands_other xs c hn (fun p' e => by rw [h] at e; simp at e)]
  unfold Owing
  iintro ⟨#HR, #Hlev, HS, HV, HL, HT, Hx, Hw, Hout, ⟨%W, Ho⟩⟩ Hk
  ihave HS' := (Sends_send c hn h) $$ HS
  icases HS' with ⟨⟨⟨%g, Hdst⟩, Ht1, Ht2, Hat⟩, HS⟩
  ihave HL' := (Slots_send xs c hn h) $$ HL
  icases HL' with ⟨Hsrc, HL⟩
  rw [O_send c hn h]
  iapply (wp_copy xs K c _ p (dst_eq c p.1) hU (O c (n + 1)) W g k Q) $$ [Hsrc Hdst Ho Ht1 Ht2]
  · isplitr; · iexact HR
    isplitl [Hsrc]; · iexact Hsrc
    isplitl [Hdst]; · iexact Hdst
    isplitl [Ho]; · iexact Ho
    isplitl [Ht1] <;> iassumption
  iintro ⟨Hc, Ho⟩
  iapply Hk
  isplitl [HS Hc Hat]
  · iapply HS; isplitl [Hc] <;> iassumption
  isplitl [HV]; · iexact HV
  isplitl [HL]; · iapply HL; iempintro
  isplitl [HT]; · iexact HT
  isplitl [Hx]; · iexact Hx
  isplitl [Hw]; · iexact Hw
  isplitl [Hout]; · iexact Hout
  iexists W; iexact Ho

/-! ## The waits -/

theorem step_recv (p : Copy) (h : acts[n] = .recv p) :
    iprop(records xs K ∗ levAts L lv ∗ St xs w c n f) ⊢ iprop((St xs w c (n + 1) f -∗ runs c k Q) -∗ runs c (actProg c k (.recv p)) Q) := by
  have hU := U_at_recv hn h
  unfold St
  rw [outAfter_succ xs w c f hn, h,
    ← Sends_other c hn (fun p' e => by rw [h] at e; simp at e) (fun p' e => by rw [h] at e; simp at e),
    ← Owing_other c hn (fun p' e => by rw [h] at e; simp at e)]
  unfold Owing
  iintro ⟨#HR, #Hlev, HS, HV, HL, HT, Hx, Hw, Hout, ⟨%W, Ho⟩⟩ Hk
  ihave HV' := (Recvs_recv c hn h) $$ HV
  icases HV' with ⟨⟨Hc, Hat⟩, HV⟩
  ihave HL' := (Slots_recv xs c hn h) $$ HL
  icases HL' with ⟨-, HL⟩
  ihave HT := (Strands_recv xs c hn h) $$ HT
  iapply (Rounds.wp_wait_rest_token 𝒱₀ ER (ringRd xs) (c : Thread nD τ) none (κ := K (c, .inr (true, p)))
      (wpE_waitDma2_eq 𝒱₀ (c : Thread nD τ) none Set.univ) (Set.mem_univ _) () (O := O c n) (W := W) (R := 0) (m := 0) (T := ∅)
      ((Nat.zero_add _).trans ((piece_credit p).trans (expect_recv xs c p hU).symm))) $$ [Hc Ho Hat]
  · isplitr; · iapply (inv_recv xs K c p); iexact HR
    isplitl [Hc]; · rw [piece_credit p]; iexact Hc
    isplitl [Ho]; · iexact Ho
    isplitr; · iapply (mayWait_recv c hn h); iexact Hlev
    iexact Hat
  iintro ⟨Ho, Hat, -, Hpay⟩
  ihave Hp := (Entails.of_eq ((rest_recv xs c p hU).trans (strPts_share c p.1 fullShare (land xs c p.1) (pset p.2.1 p.2.2)))) $$ Hpay
  imod (Rounds.cell_close ER (ringRd xs) (Set.mem_univ (K (c, .inr (true, p)))) (fun h => h) (R := 0 + 1) (duties_later xs (recvCell c p))) $$ [Hat] with Hz
  · isplitr; · iapply (inv_recv xs K c p); iexact HR
    iexact Hat
  icases Hp with ⟨Hp1, Hp2⟩
  iapply Hk
  isplitl [HS]; · iexact HS
  isplitl [HV Hz]; · iapply HV; iexact Hz
  isplitl [HL Hp2]; · iapply HL; iexact Hp2
  isplitl [HT Hp1]; · iapply HT; iexact Hp1
  isplitl [Hx]; · iexact Hx
  isplitl [Hw]; · iexact Hw
  isplitl [Hout]; · iexact Hout
  iexists _; iexact Ho

theorem step_wait (p : Copy) (h : acts[n] = .wait p) :
    iprop(records xs K ∗ levAts L lv ∗ St xs w c n f) ⊢ iprop((St xs w c (n + 1) f -∗ runs c k Q) -∗ runs c (actProg c k (.wait p)) Q) := by
  have hU := U_at_wait hn h
  unfold St
  rw [outAfter_succ xs w c f hn, h,
    ← Recvs_other c hn (fun p' e => by rw [h] at e; simp at e), ← Strands_other xs c hn (fun p' e => by rw [h] at e; simp at e),
    ← Owing_other c hn (fun p' e => by rw [h] at e; simp at e)]
  unfold Owing
  iintro ⟨#HR, #Hlev, HS, HV, HL, HT, Hx, Hw, Hout, ⟨%W, Ho⟩⟩ Hk
  ihave HS' := (Sends_wait c hn h) $$ HS
  icases HS' with ⟨⟨Hc, Hat⟩, HS⟩
  ihave HL' := (Slots_wait xs c hn h) $$ HL
  icases HL' with ⟨-, HL⟩
  iapply (Rounds.wp_wait_rest_token 𝒱₀ ER (ringRd xs) (c : Thread nD τ) none (κ := K (c, .inr (false, p)))
      (wpE_waitDma2_eq 𝒱₀ (c : Thread nD τ) none Set.univ) (Set.mem_univ _) () (O := O c n) (W := W) (R := 0) (m := 0) (T := ∅)
      ((Nat.zero_add _).trans ((src_credit p).trans (expect_send xs c p hU).symm))) $$ [Hc Ho Hat]
  · isplitr; · iapply (inv_send xs K c p); iexact HR
    isplitl [Hc]; · rw [src_credit p]; iexact Hc
    isplitl [Ho]; · iexact Ho
    isplitr; · iapply (mayWait_send c n p); iexact Hlev
    iexact Hat
  iintro ⟨Ho, Hat, -, Hpay⟩
  ihave Hp := (Entails.of_eq (rest_send xs c p hU)) $$ Hpay
  imod (Rounds.cell_close ER (ringRd xs) (Set.mem_univ (K (c, .inr (false, p)))) (fun h => h) (R := 0 + 1) (duties_later xs (sendCell c p))) $$ [Hat] with Hz
  · isplitr; · iapply (inv_send xs K c p); iexact HR
    iexact Hat
  iapply Hk
  isplitl [HS Hz]; · iapply HS; iexact Hz
  isplitl [HV]; · iexact HV
  isplitl [HL Hp]; · iapply HL; iexact Hp
  isplitl [HT]; · iexact HT
  isplitl [Hx]; · iexact Hx
  isplitl [Hw]; · iexact Hw
  isplitl [Hout]; · iexact Hout
  iexists _; iexact Ho

end

/-! ## The multiplications -/

/-- A multiplication: what it reads of its source and of `w`, and the write of the product's rows. -/
theorem wp_dot (c : Dev nD) {s t : Shape} (src : Memref sig .tc .vmem s .bf16) (rs : Rect s) (hl : src.view.LoadsAt rs.toLoadRect)
    (ro : Rect S2048x128) (hlo : oM.view.LoadsAt ro.toLoadRect) (hst : (oM.access ro).Stores Finset.univ)
    (pay : Vec F rs.shape .bf16 → Vec F S2048x128 .bf16 → Vec F ro.shape .f32) (k : P₀ (F := F)) (Q : PUnit → sProp 𝕄)
    (S : Finset (Idx (src.view.loc (c : Thread nD τ)))) (q : PosShare TreeShare) (fs : Buf (Elt F) (src.view.loc (c : Thread nD τ)))
    (hS : src.view.setOn rs.toLoadRect.set ⊆ S) (f : OC F) :
    iprop((src.view.loc (c : Thread nD τ) ↦[S]{q} fs) ∗ wPts w c ∗ outPts c f)
      ⊢ iprop((((src.view.loc (c : Thread nD τ) ↦[S]{q} fs) ∗ wPts w c
            ∗ outPts c ((oM.access ro).write (Elt F) f (pay (src.view.readAt (Elt F) rs.toLoadRect fs) w) Finset.univ)) -∗ runs c k Q)
          -∗ runs c (dotProg (F := F) (t := t) src rs hl ro hlo hst pay k) Q) := by
  unfold wPts outPts dotProg
  iintro ⟨Hs, Hw, Ho⟩ Hk
  iapply (wp_load 𝒱₀ (c : Thread nD τ) none Set.univ (m := src) hS) $$ Hs; iintro Hs
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := ro) (Mk := Finset.univ) (Finset.subset_univ _)) $$ Ho; iintro Ho
  rw [show wM.view.readAt (Elt F) rW.toLoadRect w = w from
    Memref.readAt_unit_zero (Elt F) cc0_stg1_0 (funext fun a => by fin_cases a <;> rfl) _ w]
  iapply Hk
  isplitl [Hs]; · iexact Hs
  isplitl [Hw] <;> iassumption

end Cert.KernelIdealProof

end
-- ==== Proof.KernelIdeal.Dots.lean ====
/-
# The multiplications, and the whole sequence of actions

A multiplication reads rows of a landing buffer that have all arrived. With it every kind of action is done, and so the
sequence of all of them.
-/
module

public import proofs.«01_k».proof.Proof.KernelIdeal.Steps

@[expose] public section

noncomputable section

namespace Cert.KernelIdealProof

open Cert.KernelIdeal Cert.KernelIdeal.Gen Cert.AllGather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XC F) (w : WC F) (K : Dev nD × CellId → ℕ)

section
variable (c : Dev nD) {n : ℕ} (hn : n < acts.length)
include hn

/-- The block a multiplication reads has arrived; -/
theorem slot_arrived {d : Dir} {h : Fin 7} (ha : acts[n] = .block d h) : (rSlot h).set ⊆ rcvSet n d := by
  intro i hi
  have h0 := Rect.mem_set_unit.mp hi 0
  simp at h0
  have h1 : (i 1).val < 128 := (i 1).isLt
  unfold rcvSet
  rw [Finset.mem_biUnion]
  refine ⟨(Fin.castLE (by decide) h, ⟨(i 1).val / 32, by omega⟩), ?_, ?_⟩
  · rw [Finset.mem_filter]; exact ⟨Finset.mem_univ _, landed_block hn ha _⟩
  · rw [mem_pset]
    exact ⟨by show _ = h.val; omega, by show 32 * ((i 1).val / 32) ≤ _; omega, by show _ < 32 * ((i 1).val / 32) + 32; omega⟩

/-- and so has a half of the last block. -/
theorem half_arrived {d : Dir} (ha : acts[n] = .half d) : (rHalf d).set ⊆ rcvSet n d := by
  intro i hi
  have h01 : (i 0).val = 7 ∧ (d = .cw → (i 1).val < 64) ∧ (d = .ccw → 64 ≤ (i 1).val) := by
    cases d
    · have h0 := Rect.mem_set_unit.mp hi 0
      have h1 := Rect.mem_set_unit.mp hi 1
      simp at h0 h1
      exact ⟨by omega, fun _ => by omega, fun e => by simp at e⟩
    · have h0 := Rect.mem_set_unit.mp hi 0
      have h1 := Rect.mem_set_unit.mp hi 1
      simp at h0 h1
      exact ⟨by omega, fun e => by simp at e, fun _ => by omega⟩
  have h1 : (i 1).val < 128 := (i 1).isLt
  unfold rcvSet
  rw [Finset.mem_biUnion]
  refine ⟨(7, ⟨(i 1).val / 32, by omega⟩), ?_, ?_⟩
  · rw [Finset.mem_filter]
    refine ⟨Finset.mem_univ _, landed_half hn ha _ ?_⟩
    rw [mem_U]
    cases d
    · have := h01.2.1 rfl; simp [used]; omega
    · have := h01.2.2 rfl; simp [used]; omega
  · rw [mem_pset]
    exact ⟨h01.1, by show 32 * ((i 1).val / 32) ≤ _; omega, by show _ < 32 * ((i 1).val / 32) + 32; omega⟩

end

/-- What a load through a rectangle of a whole buffer touches. -/
theorem setOn_whole (b : Ref sig .tc) (r : Rect b.ty.shape) (S : Finset b.ty.shape.Idx) (h : r.set ⊆ S) :
    (View.whole b).setOn r.toLoadRect.set ⊆ S := by
  intro i hi
  obtain ⟨j, hj, rfl⟩ := Finset.mem_map.mp hi
  exact h (by simpa using hj)

section
variable (c : Dev nD) {n : ℕ} (hn : n < acts.length) (f : OC F) (k : P₀ (F := F)) (Q : PUnit → sProp (MT nD τ sig Unit (Elt F) ℕ UU ℕ))

/-- A multiplication changes the state only in the result. -/
theorem St_dot (h1 : ∀ p, acts[n] ≠ .send p) (h2 : ∀ p, acts[n] ≠ .wait p) (h3 : ∀ p, acts[n] ≠ .recv p) :
    (St xs w c (n + 1) f : sProp 𝕄) = iprop(Sends c n ∗ Recvs c n ∗ Slots xs c n ∗ Strands xs c n ∗ xPts c Finset.univ fullShare.left (xs c) ∗ wPts w c
      ∗ outPts c (outStep xs w c (outAfter xs w c f n) acts[n]) ∗ Owing c n) := by
  unfold St
  rw [outAfter_succ xs w c f hn, ← Sends_other c hn h1 h2, ← Recvs_other c hn h3, ← Slots_other xs c hn h1 h2 h3, ← Strands_other xs c hn h3,
    ← Owing_other c hn h1]

theorem step_home (h : acts[n] = .home) :
    iprop(records xs K ∗ levAts L lv ∗ St xs w c n f) ⊢ iprop((St xs w c (n + 1) f -∗ runs c k Q) -∗ runs c (actProg c k .home) Q) := by
  rw [St_dot xs w c hn f (fun p e => by rw [h] at e; simp at e) (fun p e => by rw [h] at e; simp at e) (fun p e => by rw [h] at e; simp at e), h]
  unfold St
  iintro ⟨-, -, HS, HV, HL, HT, Hx, Hw, Hout, Ho⟩ Hk
  unfold xPts
  iapply (wp_dot w c (t := S128x128) xM rX (View.loadsAt_vmem h_S128x2048) (rHome c) (View.loadsAt_vmem h_S128x128)
      (View.stores_vmem_bits_univ h_S128x128 rfl) k0_pay1 k Q Finset.univ fullShare.left (xs c) (Finset.subset_univ _) (outAfter xs w c f n)) $$ [Hx Hw Hout]
  · isplitl [Hx]; · iexact Hx
    isplitl [Hw] <;> iassumption
  rw [show xM.view.readAt (Elt F) rX.toLoadRect (xs c) = xs c from
    Memref.readAt_unit_zero (Elt F) cc0_stg0_0 (funext fun a => by fin_cases a <;> rfl) _ (xs c)]
  iintro ⟨Hx, Hw, Hout⟩
  iapply Hk
  isplitl [HS]; · iexact HS
  isplitl [HV]; · iexact HV
  isplitl [HL]; · iexact HL
  isplitl [HT]; · iexact HT
  isplitl [Hx]; · iexact Hx
  isplitl [Hw]; · iexact Hw
  isplitl [Hout]; · iexact Hout
  iexact Ho

/-- A multiplication that reads rows of a landing buffer: the rows that have arrived are lent to it. -/
theorem St_lend (d : Dir) (f' : OC F) (X : P₀ (F := F))
    (h1 : ∀ p, acts[n] ≠ .send p) (h2 : ∀ p, acts[n] ≠ .wait p) (h3 : ∀ p, acts[n] ≠ .recv p)
    (hf : outStep xs w c (outAfter xs w c f n) acts[n] = f')
    (H : iprop(strPts c d (rcvSet n d) fullShare.left (land xs c d) ∗ wPts w c ∗ outPts c (outAfter xs w c f n))
      ⊢ iprop(((strPts c d (rcvSet n d) fullShare.left (land xs c d) ∗ wPts w c ∗ outPts c f') -∗ runs c k Q) -∗ runs c X Q)) :
    iprop(records xs K ∗ levAts L lv ∗ St xs w c n f) ⊢ iprop((St xs w c (n + 1) f -∗ runs c k Q) -∗ runs c X Q) := by
  rw [St_dot xs w c hn f h1 h2 h3, hf]
  unfold St
  iintro ⟨-, -, HS, HV, HL, HT, Hx, Hw, Hout, Ho⟩ Hk
  ihave HT' := (Strands_at xs c n d) $$ HT
  icases HT' with ⟨Hs, HT⟩
  iapply H $$ [Hs Hw Hout]
  · isplitl [Hs]; · iexact Hs
    isplitl [Hw] <;> iassumption
  iintro ⟨Hs, Hw, Hout⟩
  iapply Hk
  isplitl [HS]; · iexact HS
  isplitl [HV]; · iexact HV
  isplitl [HL]; · iexact HL
  isplitl [HT Hs]; · iapply HT; iexact Hs
  isplitl [Hx]; · iexact Hx
  isplitl [Hw]; · iexact Hw
  isplitl [Hout]; · iexact Hout
  iexact Ho

theorem step_block (d : Dir) (h : Fin 7) (ha : acts[n] = .block d h) :
    iprop(records xs K ∗ levAts L lv ∗ St xs w c n f) ⊢ iprop((St xs w c (n + 1) f -∗ runs c k Q) -∗ runs c (actProg c k (.block d h)) Q) := by
  have h1 : ∀ p, acts[n] ≠ .send p := fun p e => by rw [ha] at e; simp at e
  have h2 : ∀ p, acts[n] ≠ .wait p := fun p e => by rw [ha] at e; simp at e
  have h3 : ∀ p, acts[n] ≠ .recv p := fun p e => by rw [ha] at e; simp at e
  have hs := slot_arrived hn ha
  cases d
  · exact St_lend xs w K c hn f k Q .cw _ _ h1 h2 h3 (by rw [ha]; rfl) (wp_dot w c (t := S128x128) (strM .cw) (rSlot h) (View.loadsAt_vmem h_S1x128x2048)
      (rBlock c h .cw) (View.loadsAt_vmem h_S128x128) (View.stores_vmem_bits_univ h_S128x128 rfl) k0_pay2 k Q (rcvSet n .cw) fullShare.left
      (land xs c .cw) (setOn_whole cc0_scratch0 _ _ hs) (outAfter xs w c f n))
  · exact St_lend xs w K c hn f k Q .ccw _ _ h1 h2 h3 (by rw [ha]; rfl) (wp_dot w c (t := S128x128) (strM .ccw) (rSlot h) (View.loadsAt_vmem h_S1x128x2048)
      (rBlock c h .ccw) (View.loadsAt_vmem h_S128x128) (View.stores_vmem_bits_univ h_S128x128 rfl) k0_pay2 k Q (rcvSet n .ccw) fullShare.left
      (land xs c .ccw) (setOn_whole cc0_scratch1 _ _ hs) (outAfter xs w c f n))

theorem step_half (d : Dir) (ha : acts[n] = .half d) :
    iprop(records xs K ∗ levAts L lv ∗ St xs w c n f) ⊢ iprop((St xs w c (n + 1) f -∗ runs c k Q) -∗ runs c (actProg c k (.half d)) Q) := by
  have h1 : ∀ p, acts[n] ≠ .send p := fun p e => by rw [ha] at e; simp at e
  have h2 : ∀ p, acts[n] ≠ .wait p := fun p e => by rw [ha] at e; simp at e
  have h3 : ∀ p, acts[n] ≠ .recv p := fun p e => by rw [ha] at e; simp at e
  have hs := half_arrived hn ha
  cases d
  · exact St_lend xs w K c hn f k Q .cw _ _ h1 h2 h3 (by rw [ha]; rfl) (wp_dot w c (t := S64x128) (strM .cw) (rHalf .cw) (View.loadsAt_vmem h_S1x64x2048)
      (rAnti c .cw) (View.loadsAt_vmem h_S64x128) (View.stores_vmem_bits_univ h_S64x128 rfl) k0_pay18 k Q (rcvSet n .cw) fullShare.left
      (land xs c .cw) (setOn_whole cc0_scratch0 _ _ hs) (outAfter xs w c f n))
  · exact St_lend xs w K c hn f k Q .ccw _ _ h1 h2 h3 (by rw [ha]; rfl) (wp_dot w c (t := S64x128) (strM .ccw) (rHalf .ccw) (View.loadsAt_vmem h_S1x64x2048)
      (rAnti c .ccw) (View.loadsAt_vmem h_S64x128) (View.stores_vmem_bits_univ h_S64x128 rfl) k0_pay19 k Q (rcvSet n .ccw) fullShare.left
      (land xs c .ccw) (setOn_whole cc0_scratch1 _ _ hs) (outAfter xs w c f n))

/-- One action, whichever it is. -/
theorem step (a : Act) (ha : acts[n] = a) :
    iprop(records xs K ∗ levAts L lv ∗ St xs w c n f) ⊢ iprop((St xs w c (n + 1) f -∗ runs c k Q) -∗ runs c (actProg c k a) Q) := by
  cases a with
  | send p => exact step_send xs w K c hn f k Q p ha
  | recv p => exact step_recv xs w K c hn f k Q p ha
  | home => exact step_home xs w K c hn f k Q ha
  | block d h => exact step_block xs w K c hn f k Q d h ha
  | half d => exact step_half xs w K c hn f k Q d ha
  | wait p => exact step_wait xs w K c hn f k Q p ha
end

/-- All the actions from the `n`-th on. -/
theorem run_from (c : Dev nD) (f : OC F) (Q : PUnit → sProp 𝕄) (j n : ℕ) (hj : n + j = acts.length) :
    iprop(records xs K ∗ levAts L lv ∗ St xs w c n f) ⊢ iprop((St xs w c 197 f -∗ Q ⟨⟩) -∗ runs c (runActs c (acts.drop n)) Q) := by
  induction j generalizing n with
  | zero =>
    rw [show acts.drop n = [] from List.drop_eq_nil_of_le (by omega), show n = 197 from by rw [← acts_length]; omega]
    unfold runs runActs
    simp only [List.foldr_nil, wp_ret]
    iintro ⟨-, -, HS⟩ Hk
    imodintro
    iapply Hk; iexact HS
  | succ j ih =>
    have hn : n < acts.length := by omega
    rw [List.drop_eq_getElem_cons hn]
    show _ ⊢ iprop(_ -∗ runs c (actProg c (runActs c (acts.drop (n + 1))) acts[n]) Q)
    iintro ⟨#HR, #Hlev, HS⟩ Hk
    iapply (step xs w K c hn f (runActs c (acts.drop (n + 1))) Q acts[n] rfl) $$ [HS]
    · isplitr; · iexact HR
      isplitr; · iexact Hlev
      iexact HS
    iintro HS
    iapply (ih (n + 1) (by omega)) $$ [HS]
    · isplitr; · iexact HR
      isplitr; · iexact Hlev
      iexact HS
    iexact Hk

theorem run_all (c : Dev nD) (f : OC F) (Q : PUnit → sProp 𝕄) :
    iprop(records xs K ∗ levAts L lv ∗ St xs w c 0 f) ⊢ iprop((St xs w c 197 f -∗ Q ⟨⟩) -∗ runs c (runActs c acts) Q) :=
  run_from xs w K c f Q 197 0 acts_length.symm

end Cert.KernelIdealProof

end
-- ==== Proof.KernelIdeal.Ends.lean ====
/-
# The state before the first action and after the last

How a device's buffers, positions and tokens make the state the actions start from, and how the buffers and the counters
come together again at the end.
-/
module

public import proofs.«01_k».proof.Proof.KernelIdeal.Dots

@[expose] public section

noncomputable section

namespace Cert.KernelIdealProof

open Cert.KernelIdeal Cert.KernelIdeal.Gen Cert.AllGather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the copies -/

/-- A family over all copies: over those made, and over the others. -/
theorem copies_split (Φ : Copy → sProp 𝕄) : bigSep Finset.univ Φ = iprop(bigSep U Φ ∗ bigSep (Finset.univ \ U) Φ) :=
  bigSep_sdiff_split (Finset.subset_univ U)

/-- A family over the copies made, as one over all directions and rows. -/
theorem copies_ite (Φ : Copy → sProp 𝕄) :
    bigSep U Φ = bigSep Finset.univ fun d : Dir => bigSep Finset.univ fun hq : HQ => if (d, hq) ∈ U then Φ (d, hq) else iprop(emp) := by
  have h := bigSep_filter (Finset.univ : Finset Copy) (fun p => p ∈ U) Φ
  rw [Finset.filter_mem_eq_inter, Finset.univ_inter] at h
  rw [h]; exact bigSep_univ_prod _

theorem dirs (Φ : Dir → sProp 𝕄) : bigSep Finset.univ Φ = iprop(Φ .cw ∗ Φ .ccw) :=
  bigSep_univ_eq_bigSepL [Dir.cw, Dir.ccw] (by decide) (by decide) Φ

/-- The sources: a device's own block's quarters, one per direction, and what the copies bring. -/
def slotEquiv : (Dir × Fin 4) ⊕ Copy ≃ Slot :=
  Equiv.ofBijective (Sum.elim (fun dq => (dq.1, 0, dq.2)) nextSlot) (by decide +kernel)
theorem slots_split (Φ : Slot → sProp 𝕄) :
    bigSep Finset.univ Φ = iprop((bigSep Finset.univ fun dq : Dir × Fin 4 => Φ (dq.1, 0, dq.2)) ∗ bigSep Finset.univ fun p : Copy => Φ (nextSlot p)) := by
  rw [bigSep_univ_equiv slotEquiv, bigSep_univ_sum]; rfl

/-! ## A landing buffer in pieces -/

/-- The pieces no copy lands in. -/
def spare (c : Dev nD) (d : Dir) : sProp 𝕄 :=
  bigSep Finset.univ fun hq : HQ => if (d, hq) ∈ U then iprop(emp) else iprop(∃ g : BC F, strPts c d (pset hq.1 hq.2) fullShare g)

/-- A whole landing buffer, whatever it holds. -/
def buffer (c : Dev nD) (d : Dir) : sProp 𝕄 := iprop(∃ g : BC F, strPts c d Finset.univ fullShare g)

theorem pieces_disjoint (T : Finset HQ) : ∀ a ∈ T, ∀ b ∈ T, a ≠ b → Disjoint (pset a.1 a.2) (pset b.1 b.2) :=
  fun a _ b _ h => pset_disjoint a.1 a.2 b.1 b.2 h

theorem piece_sort (c : Dev nD) (d : Dir) (hq : HQ) (g : BC F) : (strPts c d (pset hq.1 hq.2) fullShare g : sProp 𝕄) ⊢
    iprop((if (d, hq) ∈ U then iprop(∃ g : BC F, strPts c d (pset hq.1 hq.2) fullShare g) else iprop(emp))
      ∗ (if (d, hq) ∈ U then iprop(emp) else iprop(∃ g : BC F, strPts c d (pset hq.1 hq.2) fullShare g))) := by
  by_cases h : (d, hq) ∈ U
  · rw [if_pos h, if_pos h]
    iintro H; isplitl [H]; · iexists g; iexact H
    iempintro
  · rw [if_neg h, if_neg h]
    iintro H; isplitr; · iempintro
    iexists g; iexact H

theorem buffer_split (c : Dev nD) (d : Dir) : (buffer c d : sProp 𝕄) ⊢ iprop(landing c d ∗ spare c d) := by
  unfold buffer landing spare
  rw [← bigSep_sep']
  iintro ⟨%g, H⟩
  ihave H := (Entails.of_eq (show (strPts c d Finset.univ fullShare g : sProp 𝕄) = bigSep Finset.univ fun hq : HQ => strPts c d (pset hq.1 hq.2) fullShare g from by
    rw [← pset_biUnion]; exact strPts_biUnion c d fullShare g _ _ (pieces_disjoint _))) $$ H
  have hm : (bigSep Finset.univ fun hq : HQ => (strPts c d (pset hq.1 hq.2) fullShare g : sProp 𝕄)) ⊢ bigSep Finset.univ fun hq : HQ =>
      iprop((if (d, hq) ∈ U then iprop(∃ g : BC F, strPts c d (pset hq.1 hq.2) fullShare g) else iprop(emp))
        ∗ (if (d, hq) ∈ U then iprop(emp) else iprop(∃ g : BC F, strPts c d (pset hq.1 hq.2) fullShare g))) :=
    bigSep_mono fun hq _ => piece_sort c d hq g
  iapply hm; iexact H

theorem buffer_join (c : Dev nD) (d : Dir) (g₀ : BC F) :
    (bigSep Finset.univ fun hq : HQ => (iprop(∃ g : BC F, strPts c d (pset hq.1 hq.2) fullShare g) : sProp 𝕄)) ⊢ buffer c d := by
  have hj (gs : HQ → BC F) : (bigSep Finset.univ fun hq : HQ => (strPts c d (pset hq.1 hq.2) fullShare (gs hq) : sProp 𝕄)) ⊢ buffer c d := by
    cases d
    · have h := pointsTo_biUnion_join (Ix := Unit) (Name := ℕ) (U := UU) (Lvl := ℕ) (ℓ := (c : Thread nD τ).loc cc0_scratch0) (q := fullShare) (Finset.univ : Finset HQ)
        (fun hq => pset hq.1 hq.2) gs (gs (0, 0)) (pieces_disjoint _)
      rw [pset_biUnion] at h
      refine h.trans ?_
      unfold buffer strPts
      iintro ⟨%g, -, H⟩
      iexists g; iexact H
    · have h := pointsTo_biUnion_join (Ix := Unit) (Name := ℕ) (U := UU) (Lvl := ℕ) (ℓ := (c : Thread nD τ).loc cc0_scratch1) (q := fullShare) (Finset.univ : Finset HQ)
        (fun hq => pset hq.1 hq.2) gs (gs (0, 0)) (pieces_disjoint _)
      rw [pset_biUnion] at h
      refine h.trans ?_
      unfold buffer strPts
      iintro ⟨%g, -, H⟩
      iexists g; iexact H
  have : Nonempty (BC F) := ⟨g₀⟩
  iintro H
  ihave H := (BI.bigSep_exists_pi Finset.univ (fun (hq : HQ) (g : BC F) => (strPts c d (pset hq.1 hq.2) fullShare g : sProp 𝕄))) $$ H
  icases H with ⟨%gs, H⟩
  iapply (hj gs); iexact H

/-! ## A device's block in shares -/

theorem block_split (c : Dev nD) (g : XC F) :
    (xPts c Finset.univ fullShare g : sProp 𝕄)
      = iprop(xPts c Finset.univ fullShare.left g ∗ bigSep Finset.univ fun dq : Dir × Fin 4 => xPts c (xset dq.2) (xShare dq.1) g) := by
  have h (s : PosShare TreeShare) : (xPts c Finset.univ s g : sProp 𝕄) = bigSep Finset.univ fun q : Fin 4 => xPts c (xset q) s g := by
    rw [← xset_biUnion]; exact xPts_biUnion c s g _ _ fun a _ b _ hne => xset_disjoint a b hne
  rw [bigSep_univ_prod, dirs, xPts_share c fullShare g, xPts_share c fullShare.right g, h fullShare.right.left, h fullShare.right.right]; rfl

/-! ## The start -/

section
variable (xs : Dev nD → XC F) (w : WC F) (c : Dev nD)

/-- The tokens a device pays with: for each direction its neighbour's barrier's, and each copy's two. -/
def payToks : sProp 𝕄 :=
  iprop((bigSep Finset.univ fun d : Dir => dutyTok ER (barCell (nbr d c)) 0 d.flip)
    ∗ bigSep U fun p => iprop(dutyTok ER (sendCell c p) 0 Dir.cw ∗ dutyTok ER (recvCell (nbr p.1 c) p) 0 Dir.cw))
/-- A device's positions at its copies' cells. -/
def positions (S : Finset Copy) : sProp 𝕄 :=
  iprop((bigSep S fun p => atPos ER (sendCell c p) 0 ∅ 0) ∗ bigSep S fun p => atPos ER (recvCell c p) 0 ∅ 0)

theorem sends_zero : iprop((bigSep Finset.univ fun d : Dir => landing (nbr d c) d)
      ∗ (bigSep U fun p => iprop(dutyTok ER (sendCell c p) 0 Dir.cw ∗ dutyTok ER (recvCell (nbr p.1 c) p) 0 Dir.cw))
      ∗ (bigSep U fun p => atPos ER (sendCell c p) 0 ∅ 0)) ⊢ (Sends c 0 : sProp 𝕄) := by
  have hl : (bigSep Finset.univ fun d : Dir => landing (F := F) (nbr d c) d)
      = bigSep U fun p => iprop(∃ g : BC F, strPts (nbr p.1 c) p.1 (pset p.2.1 p.2.2) fullShare g) := by
    rw [copies_ite]; rfl
  have hs : (Sends c 0 : sProp 𝕄) = bigSep U fun p => iprop((∃ g : BC F, strPts (nbr p.1 c) p.1 (pset p.2.1 p.2.2) fullShare g)
      ∗ dutyTok ER (sendCell c p) 0 Dir.cw ∗ dutyTok ER (recvCell (nbr p.1 c) p) 0 Dir.cw ∗ atPos ER (sendCell c p) 0 ∅ 0) :=
    bigSep_congr fun p _ => by unfold sendSt; rw [if_pos (Nat.zero_le _)]
  rw [hs, hl]
  simp only [bigSep_sep']
  iintro ⟨H1, ⟨H2, H3⟩, H4⟩
  isplitl [H1]; · iexact H1
  isplitl [H2]; · iexact H2
  isplitl [H3] <;> iassumption

theorem recvs_zero : iprop((bigSep U fun p => cred (tallyAt (recvCell c p) () N)) ∗ (bigSep U fun p => atPos ER (recvCell c p) 0 ∅ 0))
    ⊢ (Recvs c 0 : sProp 𝕄) := by
  rw [← bigSep_sep']
  exact Entails.of_eq (bigSep_congr fun p _ => by unfold recvSt; rw [if_pos (Nat.zero_le _)])

theorem slots_zero : (bigSep Finset.univ fun dq : Dir × Fin 4 => (xPts c (xset dq.2) (xShare dq.1) (xs c) : sProp 𝕄)) ⊢ Slots xs c 0 := by
  have h1 : (bigSep Finset.univ fun p : Copy => (slotSt xs c 0 (nextSlot p) : sProp 𝕄)) = iprop(emp) := by
    rw [show (bigSep Finset.univ fun p : Copy => (slotSt xs c 0 (nextSlot p) : sProp 𝕄)) = bigSep Finset.univ fun _ : Copy => iprop(emp) from
      bigSep_congr fun p _ => if_neg fun h => Fin.succ_ne_zero _ ((held_zero _).mp h)]
    exact bigSep_emp_const _
  have h2 : (bigSep Finset.univ fun dq : Dir × Fin 4 => (slotSt xs c 0 (dq.1, 0, dq.2) : sProp 𝕄))
      = bigSep Finset.univ fun dq : Dir × Fin 4 => xPts c (xset dq.2) (xShare dq.1) (xs c) :=
    bigSep_congr fun dq _ => if_pos ((held_zero _).mpr rfl)
  unfold Slots
  rw [slots_split, h1, h2]
  iintro H; isplitl; · iexact H
  iempintro

theorem strands_zero : (iprop(emp) : sProp 𝕄) ⊢ Strands xs c 0 := by
  have h (d : Dir) : (strPts c d (rcvSet 0 d) fullShare.left (land xs c d) : sProp 𝕄) = iprop(emp) := by
    have e : rcvSet 0 d = ∅ := by unfold rcvSet; simp
    rw [e]
    cases d <;> (unfold strPts; exact pointsTo_empty)
  unfold Strands
  rw [dirs, h, h]
  iintro -; isplitl <;> iempintro

/-! ## The end -/

theorem sends_last : (Sends c 197 : sProp 𝕄) = bigSep U fun p => semVal (sendCell c p) 0 :=
  bigSep_congr fun p hp => by
    unfold sendSt
    rw [if_neg (by have := idxOf_lt (send_mem p hp); unfold tSend; omega), if_neg (by have := idxOf_lt (wait_mem p hp); unfold tWait; omega)]
theorem recvs_last : (Recvs c 197 : sProp 𝕄) = bigSep U fun p => semVal (recvCell c p) 0 :=
  bigSep_congr fun p hp => by
    unfold recvSt
    rw [if_neg (by have := idxOf_lt (recv_mem p hp); unfold tRecv; omega)]

theorem slots_last : (Slots xs c 197 : sProp 𝕄)
    ⊢ iprop((bigSep Finset.univ fun dq : Dir × Fin 4 => xPts c (xset dq.2) (xShare dq.1) (xs c))
      ∗ bigSep U fun p => strPts c p.1 (pset p.2.1 p.2.2) fullShare.right (land xs c p.1)) := by
  have h1 : (bigSep Finset.univ fun dq : Dir × Fin 4 => (slotSt xs c 197 (dq.1, 0, dq.2) : sProp 𝕄))
      = bigSep Finset.univ fun dq : Dir × Fin 4 => xPts c (xset dq.2) (xShare dq.1) (xs c) :=
    bigSep_congr fun dq _ => if_pos ((held_last (dq.1, 0, dq.2)).mpr trivial)
  have h2 : (bigSep U fun p : Copy => (slotSt xs c 197 (nextSlot p) : sProp 𝕄))
      = bigSep U fun p => strPts c p.1 (pset p.2.1 p.2.2) fullShare.right (land xs c p.1) :=
    bigSep_congr fun p hp => (if_pos ((held_last _).mpr ((arrived_last p).mpr hp))).trans (strPts_next xs c p)
  unfold Slots
  rw [slots_split, copies_split, h1, h2]
  iintro ⟨H1, H2, -⟩
  isplitl [H1] <;> iassumption

theorem strands_last : (Strands xs c 197 : sProp 𝕄)
    = bigSep U fun p => strPts c p.1 (pset p.2.1 p.2.2) fullShare.left (land xs c p.1) := by
  rw [copies_ite]
  refine bigSep_congr fun d _ => ?_
  unfold rcvSet
  rw [strPts_biUnion c d fullShare.left (land xs c d) _ _ (pieces_disjoint _), bigSep_filter]
  refine bigSep_congr fun hq _ => ?_
  simp only [show (tRecv (d, hq) < 197) = ((d, hq) ∈ U) from propext (arrived_last (d, hq))]
  rfl

/-- What the copies brought, and the pieces no copy lands in: the two landing buffers. -/
theorem buffers_last :
    iprop((bigSep U fun p => strPts c p.1 (pset p.2.1 p.2.2) fullShare.left (land xs c p.1))
      ∗ (bigSep U fun p => strPts c p.1 (pset p.2.1 p.2.2) fullShare.right (land xs c p.1)) ∗ bigSep Finset.univ fun d : Dir => spare c d)
      ⊢ (bigSep Finset.univ fun d : Dir => buffer c d : sProp 𝕄) := by
  have hp (d : Dir) : iprop((bigSep Finset.univ fun hq : HQ => if (d, hq) ∈ U then (strPts c d (pset hq.1 hq.2) fullShare (land xs c d) : sProp 𝕄) else iprop(emp)) ∗ spare c d)
      ⊢ buffer c d := by
    refine BIBase.Entails.trans ?_ (buffer_join c d (land xs c d))
    unfold spare
    rw [← bigSep_sep']
    refine bigSep_mono fun hq _ => ?_
    by_cases h : (d, hq) ∈ U
    · simp only [if_pos h]
      exact (show iprop((strPts c d (pset hq.1 hq.2) fullShare (land xs c d) : sProp 𝕄) ∗ emp) ⊢ iprop(∃ g : BC F, strPts c d (pset hq.1 hq.2) fullShare g) from by
        iintro ⟨H, -⟩; iexists _; iexact H)
    · simp only [if_neg h]
      exact (show iprop(emp ∗ ∃ g : BC F, strPts c d (pset hq.1 hq.2) fullShare g) ⊢ (iprop(∃ g : BC F, strPts c d (pset hq.1 hq.2) fullShare g) : sProp 𝕄) from by
        iintro ⟨-, H⟩; iexact H)
  have hU : iprop((bigSep U fun p => (strPts c p.1 (pset p.2.1 p.2.2) fullShare.left (land xs c p.1) : sProp 𝕄))
      ∗ (bigSep U fun p => strPts c p.1 (pset p.2.1 p.2.2) fullShare.right (land xs c p.1)))
      = bigSep Finset.univ fun d : Dir => bigSep Finset.univ fun hq : HQ => if (d, hq) ∈ U then (strPts c d (pset hq.1 hq.2) fullShare (land xs c d) : sProp 𝕄) else iprop(emp) := by
    rw [← bigSep_sep', bigSep_congr (s := U) (Ψ := fun p => (strPts c p.1 (pset p.2.1 p.2.2) fullShare (land xs c p.1) : sProp 𝕄))
      (fun p _ => (strPts_share c p.1 fullShare (land xs c p.1) (pset p.2.1 p.2.2)).symm)]
    exact copies_ite _
  have hm : iprop((bigSep Finset.univ fun d : Dir => bigSep Finset.univ fun hq : HQ => if (d, hq) ∈ U then (strPts c d (pset hq.1 hq.2) fullShare (land xs c d) : sProp 𝕄) else iprop(emp))
      ∗ bigSep Finset.univ fun d : Dir => spare c d) ⊢ bigSep Finset.univ fun d : Dir => buffer c d := by
    rw [← bigSep_sep']; exact bigSep_mono fun d _ => hp d
  iintro ⟨H1, H2, H3⟩
  iapply hm
  isplitl [H1 H2]
  · iapply (Entails.of_eq hU)
    isplitl [H1] <;> iassumption
  iexact H3

end

end Cert.KernelIdealProof

end
-- ==== Proof.KernelIdeal.Body.lean ====
/-
# The body

The two signals, the wait on the barrier, and the actions, from what a device is dealt at launch to what it gives back.
-/
module

public import proofs.«01_k».proof.Proof.KernelIdeal.Ends

@[expose] public section

noncomputable section

namespace Cert.KernelIdealProof

open Cert.KernelIdeal Cert.KernelIdeal.Gen Cert.AllGather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XC F) (w : WC F) (K : Dev nD × CellId → ℕ) (c : Dev nD)

/-- The ring's part of what a device starts from: every cell's record, its positions, and the tokens it pays with. -/
def ring : sProp 𝕄 :=
  iprop(records xs K ∗ atPos ER (barCell c) 0 ∅ 0 ∗ positions c Finset.univ ∗ payToks c)
/-- The credit its waits spend. -/
def credit : sProp 𝕄 :=
  iprop(cred (tallyAt (barCell c) () 2) ∗ bigSep U fun p => cred (tallyAt (recvCell c p) () N))
/-- Its cells' counters at zero. -/
def counters : sProp 𝕄 :=
  iprop(semVal (barCell c) 0 ∗ (bigSep Finset.univ fun p : Copy => semVal (sendCell c p) 0) ∗ bigSep Finset.univ fun p : Copy => semVal (recvCell c p) 0)

/-- The cells of copies that are not made close at once. -/
theorem close_unused : iprop(records xs K ∗ positions c (Finset.univ \ U))
    ⊢ (|={Set.univ}=> iprop((bigSep (Finset.univ \ U) fun p => semVal (sendCell c p) 0) ∗ bigSep (Finset.univ \ U) fun p => semVal (recvCell c p) 0) : sProp 𝕄) := by
  have hs (p : Copy) (hp : p ∈ Finset.univ \ U) : iprop(records xs K ∗ atPos ER (sendCell c p) 0 ∅ 0) ⊢ (|={Set.univ}=> semVal (sendCell c p) 0 : sProp 𝕄) := by
    iintro ⟨#HR, Hat⟩
    iapply (Rounds.cell_close ER (ringRd xs) (Set.mem_univ (K (c, .inr (false, p)))) (fun h => h) (g := sendCell c p) (R := 0)
      (duties_unused xs c p false (Finset.mem_sdiff.mp hp).2))
    isplitr; · iapply (inv_send xs K c p); iexact HR
    iexact Hat
  have hr (p : Copy) (hp : p ∈ Finset.univ \ U) : iprop(records xs K ∗ atPos ER (recvCell c p) 0 ∅ 0) ⊢ (|={Set.univ}=> semVal (recvCell c p) 0 : sProp 𝕄) := by
    iintro ⟨#HR, Hat⟩
    iapply (Rounds.cell_close ER (ringRd xs) (Set.mem_univ (K (c, .inr (true, p)))) (fun h => h) (g := recvCell c p) (R := 0)
      (duties_unused xs c p true (Finset.mem_sdiff.mp hp).2))
    isplitr; · iapply (inv_recv xs K c p); iexact HR
    iexact Hat
  have hS : iprop(records xs K ∗ bigSep (Finset.univ \ U) fun p => atPos ER (sendCell c p) 0 ∅ 0)
      ⊢ (|={Set.univ}=> bigSep (Finset.univ \ U) fun p => semVal (sendCell c p) 0 : sProp 𝕄) :=
    (bigSep_with_persistent (R := records xs K) hs).trans (bigSep_fupd _ _)
  have hR : iprop(records xs K ∗ bigSep (Finset.univ \ U) fun p => atPos ER (recvCell c p) 0 ∅ 0)
      ⊢ (|={Set.univ}=> bigSep (Finset.univ \ U) fun p => semVal (recvCell c p) 0 : sProp 𝕄) :=
    (bigSep_with_persistent (R := records xs K) hr).trans (bigSep_fupd _ _)
  unfold positions
  iintro ⟨#HR, H1, H2⟩
  imod hS $$ [H1] with H1
  · isplitr; · iexact HR
    iexact H1
  imod hR $$ [H2] with H2
  · isplitr; · iexact HR
    iexact H2
  imodintro
  isplitl [H1] <;> iassumption

/-- The rule for a signal to a neighbour's barrier: it hands over the buffer the neighbour's copies land in. -/
theorem wp_sig (t : Dev nD) (d e : Dir) (ht : t = nbr d c) (he : e = d.flip) (D : CellTallies nD τ sig Unit) (W : Waits sig Unit) (k : P₀ (F := F)) (Q : PUnit → sProp 𝕄) :
    iprop(records xs K ∗ owes (c : Thread nD τ) (D + tallyAt (barCell (nbr d c)) () 1) W ∗ dutyTok ER (barCell (nbr d c)) 0 e ∗ landing c e)
      ⊢ iprop((owes (c : Thread nD τ) D W -∗ runs c k Q) -∗ runs c (.op (.semSignal (Dev.tc t) barS 1) fun _ => k) Q) := by
  subst ht he
  have hp : (landing c d.flip : sProp 𝕄) ⊢ (ringRd xs).payload (barCell (nbr d c)) 0 d.flip := by
    refine Entails.of_eq ?_
    rw [show (ringRd xs).payload (barCell (nbr d c)) 0 d.flip = landing (nbr d.flip (nbr d c)) d.flip from payload_at xs (nbr d c) (.inl ()) 0 d.flip, nbr_flip]
  iintro ⟨#HR, Ho, Ht, Hl⟩ Hk
  iapply (Rounds.wp_signal 𝒱₀ ER (ringRd xs) (c : Thread nD τ) none (dst := (nbr d c : Thread nD τ)) (κ := K (nbr d c, .inl ()))
      (d := d.flip) (by rw [duties_bar]; exact Finset.mem_univ _) (amount_bar xs (nbr d c) d.flip) () D rfl)
    $$ [Ho Ht Hl]
  · isplitr; · iapply (inv_bar xs K (nbr d c)); iexact HR
    isplitl [Ho]; · iexact Ho
    isplitl [Ht]; · iexact Ht
    isplitl [Hl]; · iapply hp; iexact Hl
    iapply (reached_bar xs K (nbr d c)); iexact HR
  iexact Hk

/-- After the last action nothing is owed. -/
theorem O_last : O c 197 = 0 := by
  unfold O
  rw [Finset.filter_false_of_mem, Finset.sum_empty]
  intro p hp
  have := idxOf_lt (send_mem p hp)
  unfold tSend; omega

/-- What a device's body starts from, and what it ends with. -/
def bodyFrom (f : OC F) : sProp 𝕄 :=
  iprop(ring xs K c ∗ credit c ∗ levAts L lv ∗ (bigSep Finset.univ fun d : Dir => buffer c d) ∗ (∃ W, owes (c : Thread nD τ) (O₀ c) W)
    ∗ xPts c Finset.univ fullShare (xs c) ∗ wPts w c ∗ outPts c f)
def bodyTo (f : OC F) : sProp 𝕄 :=
  iprop(counters c ∗ (bigSep Finset.univ fun d : Dir => buffer c d) ∗ (∃ W, owes (c : Thread nD τ) 0 W)
    ∗ xPts c Finset.univ fullShare (xs c) ∗ wPts w c ∗ outPts c (outAfter xs w c f 197))

theorem body_runs (f : OC F) (Q : PUnit → sProp 𝕄) :
    iprop(bodyFrom xs w K c f ∗ (bodyTo xs w c f -∗ Q ⟨⟩)) ⊢ runs c (bodyProg (F := F)) Q := by
  unfold bodyFrom ring credit payToks runs bodyProg
  rw [wp_deviceId]
  iintro ⟨⟨⟨#HR, HatB, Hat, HtB, HtC⟩, ⟨HcB, HcR⟩, #Hlev, Hbuf, ⟨%W, Ho⟩, Hx, Hw, Hout⟩, Hk⟩
  -- the cells of copies that are not made
  ihave Hat := (Entails.of_eq (show (positions c Finset.univ : sProp 𝕄) = iprop(
      ((bigSep U fun p => atPos ER (sendCell c p) 0 ∅ 0) ∗ bigSep (Finset.univ \ U) fun p => atPos ER (sendCell c p) 0 ∅ 0)
      ∗ ((bigSep U fun p => atPos ER (recvCell c p) 0 ∅ 0) ∗ bigSep (Finset.univ \ U) fun p => atPos ER (recvCell c p) 0 ∅ 0)) from by
    unfold positions; rw [copies_split, copies_split])) $$ Hat
  icases Hat with ⟨⟨HatS, HuS⟩, ⟨HatV, HuV⟩⟩
  imod (close_unused xs K c) $$ [HuS HuV] with ⟨HzuS, HzuV⟩
  · isplitr; · iexact HR
    unfold positions
    isplitl [HuS] <;> iassumption
  -- the buffers in pieces
  ihave Hbuf := (Entails.of_eq (dirs (F := F) fun d => buffer c d)) $$ Hbuf
  icases Hbuf with ⟨Hb1, Hb2⟩
  ihave Hb1 := (buffer_split c .cw) $$ Hb1
  ihave Hb2 := (buffer_split c .ccw) $$ Hb2
  icases Hb1 with ⟨Hl1, Hs1⟩
  icases Hb2 with ⟨Hl2, Hs2⟩
  ihave HtB := (Entails.of_eq (show (bigSep Finset.univ fun d : Dir => (dutyTok ER (barCell (nbr d c)) 0 d.flip : sProp 𝕄))
    = iprop(dutyTok ER (barCell (nbr .cw c)) 0 Dir.ccw ∗ dutyTok ER (barCell (nbr .ccw c)) 0 Dir.cw) from dirs _)) $$ HtB
  icases HtB with ⟨HtB1, HtB2⟩
  unfold O₀
  iapply (wp_sig xs K c (dst c .ccw) .ccw .cw (dst_eq c .ccw) rfl (O₁ c) W) $$ [Ho HtB2 Hl1]
  · isplitr; · iexact HR
    isplitl [Ho]; · iexact Ho
    isplitl [HtB2] <;> iassumption
  iintro Ho
  unfold O₁
  iapply (wp_sig xs K c (dst c .cw) .cw .ccw (dst_eq c .cw) rfl (O c 0) W) $$ [Ho HtB1 Hl2]
  · isplitr; · iexact HR
    isplitl [Ho]; · iexact Ho
    isplitl [HtB1] <;> iassumption
  iintro Ho
  -- the wait on the barrier brings the pieces of the neighbours' buffers
  iapply (Rounds.wp_wait_rest_token 𝒱₀ ER (ringRd xs) (c : Thread nD τ) none (κ := K (c, .inl ()))
      (wpE_semWait_eq 𝒱₀ (c : Thread nD τ) none Set.univ) (Set.mem_univ _) () (O := O c 0) (W := W) (R := 0) (m := 0) (T := ∅)
      ((Nat.zero_add _).trans (expect_bar xs c).symm)) $$ [HcB Ho HatB]
  · isplitr; · iapply (inv_bar xs K c); iexact HR
    isplitl [HcB]; · iexact HcB
    isplitl [Ho]; · iexact Ho
    isplitr; · iapply (mayWait_bar c); iexact Hlev
    iexact HatB
  iintro ⟨Ho, HatB, -, Hpay⟩
  ihave Hpay := (Entails.of_eq (rest_bar xs c)) $$ Hpay
  imod (Rounds.cell_close ER (ringRd xs) (Set.mem_univ (K (c, .inl ()))) (fun h => h) (R := 0 + 1) (duties_later xs (barCell c))) $$ [HatB] with HzB
  · isplitr; · iapply (inv_bar xs K c); iexact HR
    iexact HatB
  -- the actions
  ihave Hx := (Entails.of_eq (block_split c (xs c))) $$ Hx
  icases Hx with ⟨Hx, Hxq⟩
  iapply (run_all xs w K c f Q) $$ [Hpay HtC HatS HcR HatV Hxq Hx Hw Hout Ho]
  · isplitr; · iexact HR
    isplitr; · iexact Hlev
    unfold St
    isplitl [Hpay HtC HatS]
    · iapply (sends_zero c)
      isplitl [Hpay]; · iexact Hpay
      isplitl [HtC] <;> iassumption
    isplitl [HcR HatV]
    · iapply (recvs_zero c)
      isplitl [HcR] <;> iassumption
    isplitl [Hxq]; · iapply (slots_zero xs c); iexact Hxq
    isplitr; · iapply (strands_zero xs c); iempintro
    isplitl [Hx]; · iexact Hx
    isplitl [Hw]; · iexact Hw
    isplitl [Hout]; · iexact Hout
    unfold Owing
    iexists _; iexact Ho
  unfold St
  iintro ⟨HS, HV, HL, HT, Hx, Hw, Hout, Ho⟩
  iapply Hk
  ihave HS := (Entails.of_eq (sends_last c)) $$ HS
  ihave HV := (Entails.of_eq (recvs_last c)) $$ HV
  ihave HL := (slots_last xs c) $$ HL
  icases HL with ⟨Hxq, HL⟩
  ihave HT := (Entails.of_eq (strands_last xs c)) $$ HT
  unfold bodyTo counters
  isplitl [HzB HzuS HzuV HS HV]
  · isplitl [HzB]; · iexact HzB
    rw [copies_split fun p => semVal (sendCell c p) 0, copies_split fun p => semVal (recvCell c p) 0]
    isplitl [HS HzuS]
    · isplitl [HS] <;> iassumption
    isplitl [HV] <;> iassumption
  isplitl [HL HT Hs1 Hs2]
  · iapply (buffers_last xs c)
    isplitl [HT]; · iexact HT
    isplitl [HL]; · iexact HL
    rw [dirs fun d => spare c d]
    isplitl [Hs1] <;> iassumption
  isplitl [Ho]
  · unfold Owing
    rw [O_last]; iexact Ho
  isplitl [Hx Hxq]
  · rw [block_split c (xs c)]
    isplitl [Hx] <;> iassumption
  isplitl [Hw] <;> iassumption

end Cert.KernelIdealProof

end
-- ==== Proof.KernelIdeal.Outcome.lean ====
/-
# The result

Every row of the result is written by a multiplication, so what the result holds at the end doesn't depend on what it held.
-/
module

public import proofs.«01_k».proof.Proof.KernelIdeal.Body

@[expose] public section

noncomputable section

namespace Cert.KernelIdealProof

open Cert.KernelIdeal Cert.KernelIdeal.Gen Cert.AllGather
open Idealize.ShloMosaic Idealize.ShloMosaic.TcCoe
open Idealize.SL Idealize.SL.RA Idealize.SL.BI
open Idealize.ShloMosaic.ValueIdx (ix2 ix3 eq_ix2 reshapeEquiv_ix2_1ab)

variable {F : FTy → Type} [FloatOps F]

/-! ## Where the multiplications write -/

theorem off_home (c : Dev nD) : ∀ a, k0_off1 c a = (![128 * c.val, 0] : Fin 2 → ℕ) a := by revert c; decide +kernel
theorem off_cw (c : Dev nD) (h : Fin 7) :
    ∀ a, k0_off2 c (BitVec.ofNat 32 h.val) a = (![128 * (origin .cw c (Fin.castLE (by decide) h)).val, 0] : Fin 2 → ℕ) a := by revert c h; decide +kernel
theorem off_ccw (c : Dev nD) (h : Fin 7) :
    ∀ a, k0_off3 c (BitVec.ofNat 32 h.val) a = (![128 * (origin .ccw c (Fin.castLE (by decide) h)).val, 0] : Fin 2 → ℕ) a := by revert c h; decide +kernel
theorem off_half_cw (c : Dev nD) : ∀ a, k0_off4 c a = (![128 * (origin .cw c 7).val, 0] : Fin 2 → ℕ) a := by revert c; decide +kernel
theorem off_half_ccw (c : Dev nD) : ∀ a, k0_off5 c a = (![128 * (origin .ccw c 7).val + 64, 0] : Fin 2 → ℕ) a := by revert c; decide +kernel

/-- The rows an action writes. -/
def foot (c : Dev nD) : Act → Finset S2048x128.Idx
  | .home => (rHome c).set
  | .block d h => (rBlock c h d).set
  | .half d => (rAnti c d).set
  | _ => ∅

theorem mem_home (c : Dev nD) (i : S2048x128.Idx) : i ∈ foot c .home ↔ 128 * c.val ≤ (i 0).val ∧ (i 0).val < 128 * c.val + 128 := by
  show i ∈ (rHome c).set ↔ _
  unfold rHome
  rw [Rect.mem_set_unit, Fin.forall_fin_two]
  simp [off_home]
  exact fun _ _ => (i 1).isLt
theorem mem_block (c : Dev nD) (d : Dir) (h : Fin 7) (i : S2048x128.Idx) :
    i ∈ foot c (.block d h) ↔ 128 * (origin d c (Fin.castLE (by decide) h)).val ≤ (i 0).val ∧ (i 0).val < 128 * (origin d c (Fin.castLE (by decide) h)).val + 128 := by
  show i ∈ (rBlock c h d).set ↔ _
  cases d
  · unfold rBlock
    rw [Rect.mem_set_unit, Fin.forall_fin_two]
    simp [off_cw]
    exact fun _ _ => (i 1).isLt
  · unfold rBlock
    rw [Rect.mem_set_unit, Fin.forall_fin_two]
    simp [off_ccw]
    exact fun _ _ => (i 1).isLt
theorem mem_half_cw (c : Dev nD) (i : S2048x128.Idx) :
    i ∈ foot c (.half .cw) ↔ 128 * (origin .cw c 7).val ≤ (i 0).val ∧ (i 0).val < 128 * (origin .cw c 7).val + 64 := by
  show i ∈ (rAnti c .cw).set ↔ _
  unfold rAnti
  rw [Rect.mem_set_unit, Fin.forall_fin_two]
  simp [off_half_cw]
  exact fun _ _ => (i 1).isLt
theorem mem_half_ccw (c : Dev nD) (i : S2048x128.Idx) :
    i ∈ foot c (.half .ccw) ↔ 128 * (origin .ccw c 7).val + 64 ≤ (i 0).val ∧ (i 0).val < 128 * (origin .ccw c 7).val + 64 + 64 := by
  show i ∈ (rAnti c .ccw).set ↔ _
  unfold rAnti
  rw [Rect.mem_set_unit, Fin.forall_fin_two]
  simp [off_half_ccw]
  exact fun _ _ => (i 1).isLt

/-- Every device's block is the device's own, or one that a hop brings, or the last. -/
theorem blocks_all (c o : Fin 16) : o = c ∨ (∃ (d : Dir) (h : Fin 7), origin d c (Fin.castLE (by decide) h) = o) ∨ (origin .cw c 7 = o ∧ origin .ccw c 7 = o) := by
  revert c o; decide +kernel
theorem home_mem : Act.home ∈ acts := by decide +kernel
theorem block_mem (d : Dir) (h : Fin 7) : Act.block d h ∈ acts := by revert d h; decide +kernel
theorem half_mem (d : Dir) : Act.half d ∈ acts := by revert d; decide +kernel

/-- Every row is written. -/
theorem foot_all (c : Dev nD) (i : S2048x128.Idx) : ∃ a ∈ acts, i ∈ foot c a := by
  have hi : (i 0).val < 2048 := (i 0).isLt
  rcases blocks_all c ⟨(i 0).val / 128, by omega⟩ with h | ⟨d, h, e⟩ | ⟨e1, e2⟩
  · have := congrArg Fin.val h
    exact ⟨_, home_mem, (mem_home c i).mpr (by simp at this; omega)⟩
  · have := congrArg Fin.val e
    exact ⟨_, block_mem d h, (mem_block c d h i).mpr (by simp at this; omega)⟩
  · have h1 := congrArg Fin.val e1
    have h2 := congrArg Fin.val e2
    simp at h1 h2
    by_cases hh : (i 0).val < 128 * (origin .cw c 7).val + 64
    · exact ⟨_, half_mem .cw, (mem_half_cw c i).mpr (by omega)⟩
    · exact ⟨_, half_mem .ccw, (mem_half_ccw c i).mpr (by omega)⟩

/-! ## What a multiplication writes -/

/-- A rectangle's positions are the images of its own. -/
theorem mem_rect (r : Rect S2048x128) (i : S2048x128.Idx) : i ∈ r.set ↔ ∃ j, r.emb j = i := by
  rw [← Rect.map_emb_univ]
  exact Finset.mem_map.trans ⟨fun ⟨j, _, h⟩ => ⟨j, h⟩, fun ⟨j, h⟩ => ⟨j, Finset.mem_univ j, h⟩⟩

/-- A store through a rectangle of the result: inside, what is stored; -/
theorem store_in (r : Rect S2048x128) (f : OC F) (v : r.shape.Idx → Elt F .f32) (j : r.shape.Idx) :
    (oM.access r).write (Elt F) f v Finset.univ (r.emb j) = v j :=
  View.write_emb_of_mem (v := oM.access r) f v (Finset.mem_univ j)
/-- outside, what was there. -/
theorem store_out (r : Rect S2048x128) (f : OC F) (v : r.shape.Idx → Elt F .f32) (i : S2048x128.Idx) (h : i ∉ r.set) :
    (oM.access r).write (Elt F) f v Finset.univ i = f i := by
  refine View.write_of_not_mem (v := oM.access r) f v Finset.univ fun hi => h ?_
  obtain ⟨j, -, e⟩ := Finset.mem_map.mp hi
  exact (mem_rect r i).mpr ⟨j, e⟩

variable (xs : Dev nD → XC F) (w : WC F) (c : Dev nD)

theorem outStep_out (f : OC F) (a : Act) (i : S2048x128.Idx) (h : i ∉ foot c a) : outStep xs w c f a i = f i := by
  cases a with
  | send p => rfl
  | recv p => rfl
  | wait p => rfl
  | home => exact store_out _ _ _ _ h
  | block d k => cases d <;> exact store_out _ _ _ _ h
  | half d => cases d <;> exact store_out _ _ _ _ h

theorem store_indep (r : Rect S2048x128) (f f' : OC F) (v : r.shape.Idx → Elt F .f32) (i : S2048x128.Idx) (h : i ∈ r.set) :
    (oM.access r).write (Elt F) f v Finset.univ i = (oM.access r).write (Elt F) f' v Finset.univ i := by
  obtain ⟨j, rfl⟩ := (mem_rect r i).mp h
  exact (store_in r f v j).trans (store_in r f' v j).symm

theorem outStep_in (f f' : OC F) (a : Act) (i : S2048x128.Idx) (h : i ∈ foot c a) : outStep xs w c f a i = outStep xs w c f' a i := by
  cases a with
  | send p => cases h
  | recv p => cases h
  | wait p => cases h
  | home => exact store_indep _ _ _ _ _ h
  | block d k => cases d <;> exact store_indep _ _ _ _ _ h
  | half d => cases d <;> exact store_indep _ _ _ _ _ h

theorem fold_indep (i : S2048x128.Idx) (l : List Act) (f f' : OC F) (h : f i = f' i ∨ ∃ a ∈ l, i ∈ foot c a) :
    l.foldl (outStep xs w c) f i = l.foldl (outStep xs w c) f' i := by
  induction l generalizing f f' with
  | nil =>
    rcases h with h | ⟨a, ha, -⟩
    · exact h
    · cases ha
  | cons a l ih =>
    refine ih _ _ ?_
    by_cases hi : i ∈ foot c a
    · exact Or.inl (outStep_in xs w c f f' a i hi)
    · rcases h with h | ⟨b, hb, hib⟩
      · exact Or.inl ((outStep_out xs w c f a i hi).trans (h.trans (outStep_out xs w c f' a i hi).symm))
      · rcases List.mem_cons.mp hb with rfl | hb
        · exact absurd hib hi
        · exact Or.inr ⟨b, hb, hib⟩

/-- Some contents of the result. -/
def out₀ : OC F := fun i => k0_pay1 (xs c) w (ix2 ⟨(i 0).val % 128, Nat.mod_lt _ (by decide)⟩ (i 1))

/-- What the result of device `c` holds at the end. -/
def outOf : OC F := outAfter xs w c (out₀ xs w c) 197

theorem out_eq (f : OC F) : outAfter xs w c f 197 = outOf xs w c := by
  unfold outOf outAfter
  rw [List.take_of_length_le (Nat.le_of_eq acts_length)]
  exact funext fun i => fold_indep xs w c i acts _ _ (Or.inr (foot_all c i))

end Cert.KernelIdealProof

end
-- ==== Proof.KernelIdeal.Deal.lean ====
/-
# What the launch deals

The rounds' ghost state of every device's cells, made at launch: the cells' records, known to all, each device's positions,
and the tokens dealt to the devices that pay with them. And the launch's credit: what the other devices owe a device's cells.
-/
module

public import proofs.«01_k».proof.Proof.KernelIdeal.Outcome

@[expose] public section

noncomputable section

namespace Cert.KernelIdealProof

open Cert.KernelIdeal Cert.KernelIdeal.Gen Cert.AllGather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over a device's cells -/

theorem bools (Φ : Bool → sProp 𝕄) : bigSep Finset.univ Φ = iprop(Φ false ∗ Φ true) :=
  bigSep_univ_eq_bigSepL [false, true] (by decide) (by decide) Φ
theorem unit_one (Φ : Unit → sProp 𝕄) : bigSep Finset.univ Φ = Φ () :=
  bigSep_univ_eq_bigSepL [()] (by decide) (by decide) Φ
theorem dmaIds (Φ : Bool × Copy → sProp 𝕄) : bigSep Finset.univ Φ
    = iprop((bigSep Finset.univ fun p : Copy => Φ (false, p)) ∗ bigSep Finset.univ fun p : Copy => Φ (true, p)) :=
  (bigSep_univ_prod Φ).trans (bools _)
theorem cellIds (Φ : CellId → sProp 𝕄) : bigSep Finset.univ Φ
    = iprop(Φ (.inl ()) ∗ (bigSep Finset.univ fun p : Copy => Φ (.inr (false, p))) ∗ bigSep Finset.univ fun p : Copy => Φ (.inr (true, p))) := by
  rw [bigSep_univ_sum, unit_one, dmaIds]; rfl

/-- Of a family over all copies, the part over those made. -/
theorem copies_made (Φ : Copy → sProp 𝕄) : bigSep Finset.univ Φ ⊢ bigSep U Φ := bigSep_subset (Finset.subset_univ U)

/-! ## The cells and the tokens -/

theorem cellAt_iff (a b : Dev nD) (k l : CellId) : cellAt a k = cellAt b l ↔ a = b ∧ k = l :=
  ⟨fun h => ⟨congrArg (fun g : GSem nD τ sig => g.1.1) h, csem_injective (congrArg Prod.snd h)⟩, fun ⟨h1, h2⟩ => by subst h1 h2; rfl⟩

def kcell (ck : Dev nD × CellId) : GSem nD τ sig := cellAt ck.1 ck.2
theorem kcell_injective : Function.Injective kcell := fun a b h => Prod.ext ((cellAt_iff a.1 b.1 a.2 b.2).mp h).1 ((cellAt_iff a.1 b.1 a.2 b.2).mp h).2
def ringCells : Finset (GSem nD τ sig) := Finset.univ.map ⟨kcell, kcell_injective⟩

/-- A device's cells' tokens: its barrier's, one per direction, and one for each of the others. -/
abbrev TokId := Dir ⊕ (Bool × Copy)
def tokOf : Dev nD × TokId → GSem nD τ sig × ℕ × Dir
  | (c, .inl d) => (cellAt c (.inl ()), 0, d)
  | (c, .inr k) => (cellAt c (.inr k), 0, Dir.cw)
theorem tokOf_injective : Function.Injective tokOf := by
  rintro ⟨c, d | k⟩ ⟨c', d' | k'⟩ h
  · have h1 := (cellAt_iff c c' (.inl ()) (.inl ())).mp (congrArg Prod.fst h)
    have h2 : d = d' := congrArg (fun x : GSem nD τ sig × ℕ × Dir => x.2.2) h
    rw [h1.1, h2]
  · exact absurd ((cellAt_iff c c' (.inl ()) (.inr k')).mp (congrArg Prod.fst h)).2 (fun h => by cases h)
  · exact absurd ((cellAt_iff c c' (.inr k) (.inl ())).mp (congrArg Prod.fst h)).2 (fun h => by cases h)
  · have h1 := (cellAt_iff c c' (.inr k) (.inr k')).mp (congrArg Prod.fst h)
    have h2 : k = k' := by simpa using h1.2
    rw [h1.1, h2]
def ringToks : Finset (GSem nD τ sig × ℕ × Dir) := Finset.univ.map ⟨tokOf, tokOf_injective⟩

variable (xs : Dev nD → XC F)

/-- The tokens of device `c`'s own cells. -/
def toks (c : Dev nD) : sProp 𝕄 :=
  iprop((bigSep Finset.univ fun d : Dir => dutyTok ER (barCell c) 0 d) ∗ (bigSep Finset.univ fun p : Copy => dutyTok ER (sendCell c p) 0 Dir.cw)
    ∗ bigSep Finset.univ fun p : Copy => dutyTok ER (recvCell c p) 0 Dir.cw)

/-- What a device is dealt before its cells' records exist. -/
def G (c : Dev nD) : sProp 𝕄 :=
  iprop((bigSep Finset.univ fun k : CellId => roundState ER (ringRd xs) (cellAt c k) 0)
    ∗ ((bigSep Finset.univ fun k : CellId => atPos ER (cellAt c k) 0 ∅ 0) ∗ bigSep Finset.univ fun k : CellId => reached ER (cellAt c k) 0) ∗ toks c)

theorem fund_ring : BI.own (ER (initOf ringCells ringToks)) ⊢ (|==> bigSep Finset.univ (G xs) : sProp 𝕄) := by
  have hX (Φ : GSem nD τ sig → sProp 𝕄) : bigSep ringCells Φ = bigSep Finset.univ fun c : Dev nD => bigSep Finset.univ fun k : CellId => Φ (cellAt c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_sum, dmaIds]; rfl
  iintro HX
  imod (Rounds.fund ER (ringRd xs) ringCells ringToks) $$ HX with ⟨Hst, Hr, Hat, Htok⟩
  imodintro
  ihave Hst := (Entails.of_eq (hX fun g => roundState ER (ringRd xs) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The counters -/

/-- The kernel's own semaphores. -/
def osem (k : Bool × Copy) : SemLoc sig := .dma (dsem k)

theorem ownSems0_eq (c : Dev nD) : (Pipeline.ownSems0 (Ix := Unit) (Name := ℕ) (U := UU) (Lvl := ℕ) (Val := Elt F) (τ := τ) osem c : sProp 𝕄)
    = iprop((bigSep Finset.univ fun p : Copy => semVal (sendCell c p) 0) ∗ bigSep Finset.univ fun p : Copy => semVal (recvCell c p) 0) := by
  unfold Pipeline.ownSems0; rw [dmaIds]; rfl
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl
theorem counters_eq (c : Dev nD) : (counters c : sProp 𝕄)
    = iprop(unscopedSems0 c ∗ Pipeline.ownSems0 (Ix := Unit) (Name := ℕ) (U := UU) (Lvl := ℕ) (Val := Elt F) (τ := τ) osem c) := by
  rw [ownSems0_eq, unscopedSems0_eq]; rfl
theorem counters_cells (c : Dev nD) : (counters c : sProp 𝕄) = bigSep Finset.univ fun k : CellId => semVal (cellAt c k) 0 := by
  rw [cellIds]; rfl

/-! ## The records -/

theorem core_alloc (c : Dev nD) :
    iprop(Pipeline.ownSems0 (Ix := Unit) (Name := ℕ) (U := UU) (Lvl := ℕ) (Val := Elt F) (τ := τ) osem c ∗ unscopedSems0 c ∗ G xs c)
      ⊢ |={Set.univ}=> iprop((bigSep Finset.univ fun k : CellId => iprop(∃ κ : ℕ, cellInv ER (ringRd xs) κ (cellAt c k)))
          ∗ ((bigSep Finset.univ fun k : CellId => atPos ER (cellAt c k) 0 ∅ 0) ∗ bigSep Finset.univ fun k : CellId => reached ER (cellAt c k) 0) ∗ toks c) := by
  have hk : iprop((bigSep Finset.univ fun k : CellId => semVal (cellAt c k) 0) ∗ bigSep Finset.univ fun k : CellId => roundState ER (ringRd xs) (cellAt c k) 0)
      ⊢ (|={Set.univ}=> bigSep Finset.univ fun k : CellId => iprop(∃ κ : ℕ, cellInv ER (ringRd xs) κ (cellAt c k)) : sProp 𝕄) := by
    rw [← bigSep_sep']
    exact (bigSep_mono fun k _ => (Rounds.body_intro ER (ringRd xs) (cellAt c k)).trans inv_alloc).trans (bigSep_fupd _ _)
  unfold G
  iintro ⟨Hos, Hus, Hst, Hat, Htok⟩
  ihave Hv := (Entails.of_eq ((counters_eq (F := F) c).symm.trans (counters_cells c))) $$ [Hos Hus]
  · isplitl [Hus] <;> iassumption
  imod hk $$ [Hv Hst] with Hinv
  · isplitl [Hv] <;> iassumption
  imodintro
  isplitl [Hinv]; · iexact Hinv
  isplitl [Hat] <;> iassumption

/-- A family over the ring, each member taken from the neighbour in direction `d`. -/
theorem around (d : Dir) (Φ : Dev nD → sProp 𝕄) : bigSep Finset.univ Φ = bigSep Finset.univ fun c : Dev nD => Φ (nbr d c) :=
  bigSep_univ_equiv (ringEquiv d) Φ

theorem recv_around : (bigSep Finset.univ fun c : Dev nD => bigSep Finset.univ fun p : Copy => (dutyTok ER (recvCell c p) 0 Dir.cw : sProp 𝕄))
    = bigSep Finset.univ fun c : Dev nD => bigSep Finset.univ fun p : Copy => dutyTok ER (recvCell (nbr p.1 c) p) 0 Dir.cw := by
  rw [Pipeline.bigSep_univ_comm, Pipeline.bigSep_univ_comm (fun (c : Dev nD) (p : Copy) => (dutyTok ER (recvCell (nbr p.1 c) p) 0 Dir.cw : sProp 𝕄))]
  exact bigSep_congr fun p _ => around p.1 fun c => dutyTok ER (recvCell c p) 0 Dir.cw

/-- The tokens dealt around the ring, each to the device that pays with it. -/
theorem toks_around : (bigSep Finset.univ fun c : Dev nD => (toks c : sProp 𝕄)) ⊢ bigSep Finset.univ fun c : Dev nD => payToks c := by
  have hp (c : Dev nD) : iprop((dutyTok ER (barCell (nbr .cw c)) 0 Dir.ccw ∗ dutyTok ER (barCell (nbr .ccw c)) 0 Dir.cw)
      ∗ (bigSep Finset.univ fun p : Copy => dutyTok ER (sendCell c p) 0 Dir.cw)
      ∗ bigSep Finset.univ fun p : Copy => dutyTok ER (recvCell (nbr p.1 c) p) 0 Dir.cw) ⊢ (payToks c : sProp 𝕄) := by
    unfold payToks
    rw [dirs, bigSep_sep']
    iintro ⟨H1, H2, H3⟩
    isplitl [H1]; · iexact H1
    ihave H2 := (copies_made fun p : Copy => dutyTok ER (sendCell c p) 0 Dir.cw) $$ H2
    ihave H3 := (copies_made fun p : Copy => dutyTok ER (recvCell (nbr p.1 c) p) 0 Dir.cw) $$ H3
    isplitl [H2] <;> iassumption
  have hm : (bigSep Finset.univ fun c : Dev nD => iprop((dutyTok ER (barCell (nbr .cw c)) 0 Dir.ccw ∗ dutyTok ER (barCell (nbr .ccw c)) 0 Dir.cw)
      ∗ (bigSep Finset.univ fun p : Copy => dutyTok ER (sendCell c p) 0 Dir.cw)
      ∗ bigSep Finset.univ fun p : Copy => dutyTok ER (recvCell (nbr p.1 c) p) 0 Dir.cw)) ⊢ bigSep Finset.univ fun c : Dev nD => (payToks c : sProp 𝕄) :=
    bigSep_mono fun c _ => hp c
  refine BIBase.Entails.trans ?_ hm
  have ht : (bigSep Finset.univ fun c : Dev nD => (toks c : sProp 𝕄)) = bigSep Finset.univ fun c : Dev nD =>
      iprop((dutyTok ER (barCell c) 0 Dir.cw ∗ dutyTok ER (barCell c) 0 Dir.ccw) ∗ (bigSep Finset.univ fun p : Copy => dutyTok ER (sendCell c p) 0 Dir.cw)
        ∗ bigSep Finset.univ fun p : Copy => dutyTok ER (recvCell c p) 0 Dir.cw) :=
    bigSep_congr fun c _ => by unfold toks; rw [dirs]
  rw [ht]
  simp only [bigSep_sep']
  rw [around .ccw fun c => dutyTok ER (barCell c) 0 Dir.cw, around .cw fun c => dutyTok ER (barCell c) 0 Dir.ccw, recv_around]
  iintro ⟨⟨H1, H2⟩, H3, H4⟩
  isplitl [H1 H2]
  · isplitl [H2] <;> iassumption
  isplitl [H3] <;> iassumption

/-- What a device's body starts from, at some names of the records. -/
def G' (c : Dev nD) : sProp 𝕄 := iprop(∃ K, ring xs K c)

theorem ring_intro (K : Dev nD × CellId → ℕ) (c : Dev nD) :
    iprop(records xs K ∗ (bigSep Finset.univ fun k : CellId => atPos ER (cellAt c k) 0 ∅ 0) ∗ payToks c) ⊢ G' xs c := by
  have h : (bigSep Finset.univ fun k : CellId => (atPos ER (cellAt c k) 0 ∅ 0 : sProp 𝕄)) = iprop(atPos ER (barCell c) 0 ∅ 0 ∗ positions c Finset.univ) :=
    (cellIds _).trans rfl
  unfold G' ring
  rw [h]
  iintro ⟨#HR, ⟨HB, HS⟩, Ht⟩
  iexists K
  isplitr; · iexact HR
  isplitl [HB]; · iexact HB
  isplitl [HS] <;> iassumption

theorem regroup :
    (bigSep Finset.univ fun c : Dev nD => iprop((bigSep Finset.univ fun k : CellId => iprop(∃ κ : ℕ, cellInv ER (ringRd xs) κ (cellAt c k)))
          ∗ ((bigSep Finset.univ fun k : CellId => atPos ER (cellAt c k) 0 ∅ 0) ∗ bigSep Finset.univ fun k : CellId => reached ER (cellAt c k) 0) ∗ toks c) : sProp 𝕄)
      ⊢ bigSep Finset.univ (G' xs) := by
  simp only [bigSep_sep']
  rw [← bigSep_univ_prod (fun ck : Dev nD × CellId => iprop(∃ κ : ℕ, cellInv ER (ringRd xs) κ (cellAt ck.1 ck.2))),
    ← bigSep_univ_prod (fun ck : Dev nD × CellId => (reached ER (cellAt ck.1 ck.2) 0 : sProp 𝕄))]
  iintro ⟨HI, ⟨Hat, #HR⟩, Htok⟩
  ihave HK := (BI.bigSep_exists_pi Finset.univ (fun (ck : Dev nD × CellId) (κ : ℕ) => (cellInv ER (ringRd xs) κ (cellAt ck.1 ck.2) : sProp 𝕄))) $$ HI
  icases HK with ⟨%K, #HI⟩
  ihave Htk := (toks_around (F := F)) $$ Htok
  have hd : iprop(records xs K ∗ bigSep Finset.univ fun c : Dev nD => iprop((bigSep Finset.univ fun k : CellId => atPos ER (cellAt c k) 0 ∅ 0) ∗ payToks c))
      ⊢ (bigSep Finset.univ (G' xs) : sProp 𝕄) := bigSep_with_persistent (R := records xs K) fun c _ => ring_intro xs K c
  iapply hd
  isplitr
  · unfold records; isplitl; · iexact HI
    iexact HR
  rw [bigSep_sep']
  isplitl [Hat] <;> iassumption

/-- The update that makes the records, over all devices at once. -/
theorem glob : (bigSep Finset.univ fun c => iprop(Pipeline.ownSems0 (Ix := Unit) (Name := ℕ) (U := UU) (Lvl := ℕ) (Val := Elt F) (τ := τ) osem c ∗ unscopedSems0 c ∗ G xs c) : sProp 𝕄)
    ⊢ |={Set.univ}=> bigSep Finset.univ (G' xs) :=
  ((bigSep_mono fun c _ => core_alloc xs c).trans (bigSep_fupd _ _)).trans (BI.fupd_mono (regroup xs))

/-! ## The launch's credit -/

theorem owed_bar (d c : Dev nD) : O₀ d (barCell c) () = (if nbr .cw d = c then 1 else 0) + (if nbr .ccw d = c then 1 else 0) := by
  have h0 : O d 0 (barCell c) () = 0 := by
    by_contra h
    obtain ⟨p, -, -, e⟩ := O_pos (Nat.pos_of_ne_zero h)
    exact absurd ((cellAt_iff c _ (.inl ()) (.inr (true, p))).mp e).2 (fun h => by cases h)
  have hb (e : Dir) : (tallyAt (barCell (nbr e d)) () 1 : CellTallies nD τ sig Unit) (barCell c) () = if nbr e d = c then 1 else 0 := by
    rw [tallyAt_apply]
    refine if_congr ⟨fun h => ((cellAt_iff c _ (.inl ()) (.inl ())).mp h.1).1.symm, fun h => ⟨by rw [h], rfl⟩⟩ rfl rfl
  unfold O₀ O₁
  rw [Pi.add_apply, Finsupp.add_apply, Pi.add_apply, Finsupp.add_apply, h0, hb, hb, Nat.zero_add]

theorem owed_recv (d c : Dev nD) (p : Copy) (hp : p ∈ U) : O₀ d (recvCell c p) () = if nbr p.1 d = c then N else 0 := by
  have hb (e : Dir) : (tallyAt (barCell (nbr e d)) () 1 : CellTallies nD τ sig Unit) (recvCell c p) () = 0 := by
    rw [tallyAt_apply]
    exact if_neg fun h => absurd ((cellAt_iff c _ (.inr (true, p)) (.inl ())).mp h.1).2 (fun h => by cases h)
  unfold O₀ O₁ O
  rw [Pi.add_apply, Finsupp.add_apply, Pi.add_apply, Finsupp.add_apply, hb, hb, add_zero, add_zero, Finset.sum_apply, Finsupp.finset_sum_apply]
  rw [Finset.sum_eq_single_of_mem p (Finset.mem_filter.mpr ⟨hp, Nat.zero_le _⟩)]
  · rw [tallyAt_apply]
    exact if_congr ⟨fun h => ((cellAt_iff c _ (.inr (true, p)) (.inr (true, p))).mp h.1).1.symm, fun h => ⟨by rw [h], rfl⟩⟩ rfl rfl
  · intro p' _ hne
    rw [tallyAt_apply]
    refine if_neg fun h => hne ?_
    have := ((cellAt_iff c _ (.inr (true, p)) (.inr (true, p'))).mp h.1).2
    simpa using this.symm

/-- One device has a given neighbour. -/
theorem sum_nbr (d : Dir) (c : Dev nD) (n : ℕ) : (∑ e : Dev nD, if nbr d e = c then n else 0) = n := by
  rw [Finset.sum_eq_single_of_mem (nbr d.flip c) (Finset.mem_univ _) fun e _ hne => if_neg fun h => hne (by rw [← h]; exact (nbr_flip d e).symm)]
  exact if_pos (flip_nbr d c)

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, sum_nbr, sum_nbr]

theorem launch_recv (c : Dev nD) (p : Copy) (hp : p ∈ U) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p hp, sum_nbr]

theorem creds (c : Dev nD) : (Pipeline.launchCred O₀ c : sProp 𝕄) ⊢ credit c := by
  have hs : (Pipeline.launchCred O₀ c : sProp 𝕄) ⊢ bigSep Finset.univ fun k : CellId => cred (tallyOn (cellAt c k) (launchCredit (Pipeline.owing O₀) 0 (cellAt c k))) := by
    unfold Pipeline.launchCred
    refine BIBase.Entails.trans (bigSep_subset (Finset.subset_univ (Finset.univ.map ⟨csem, csem_injective⟩))) ?_
    rw [bigSep_map]; exact Entails.of_eq rfl
  have hr : (bigSep U fun p => (cred (tallyOn (recvCell c p) (launchCredit (Pipeline.owing O₀) 0 (recvCell c p))) : sProp 𝕄))
      = bigSep U fun p => cred (tallyAt (recvCell c p) () N) := bigSep_congr fun p hp => by rw [launch_recv c p hp]
  refine hs.trans ?_
  unfold credit
  rw [cellIds, ← hr, ← launch_bar]
  iintro ⟨H1, -, H2⟩
  isplitl [H1]; · iexact H1
  iapply (copies_made fun p : Copy => cred (tallyOn (recvCell c p) (launchCredit (Pipeline.owing O₀) 0 (recvCell c p))))
  iexact H2

end Cert.KernelIdealProof

end
-- ==== Proof.KernelIdeal.Launch.lean ====
/-
# The run

The body's theorem through the launch: every run of the kernel ends, with every device's result as the multiplications left
it, the arguments as they were and every counter at zero.
-/
module

public import proofs.«01_k».proof.Proof.KernelIdeal.Deal
public import proofs.«01_k».proof.Proof.Gen.KernelIdeal.Points
public import Idealize.ShloMosaic.Lib.Quiescent
public import Idealize.ShloMosaic.Lib.Pipeline.CollectiveSegs

@[expose] public section

noncomputable section

namespace Cert.KernelIdealProof

open Cert.KernelIdeal Cert.KernelIdeal.Gen Cert.AllGather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- Each device's blocks of the two arguments, as the staging buffers hold them. -/
def xs (c : Dev nD) : XC F := (win0_0.blk (0 : Fin 1)).view.read (Elt F) (m ((c : Thread nD τ).loc main_arg0))
def ws (c : Dev nD) : WC F := (win0_1.blk (0 : Fin 1)).view.read (Elt F) (m ((c : Thread nD τ).loc main_arg1))

/-- The result of device `c`. -/
@[irreducible] def res (c : Dev nD) : OC F := outOf (xs m) (ws m c) c

/-! ## The pipeline's data -/

def start (c : Dev nD) : sProp 𝕄 := iprop(G' (xs m) c ∗ credit c ∗ levAts L lv)
def Φ₀ (c : Dev nD) : sProp 𝕄 := iprop(start m c ∗ bigSep Finset.univ fun d : Dir => buffer c d)
def Φ₁ (c : Dev nD) : sProp 𝕄 := iprop(counters c ∗ bigSep Finset.univ fun d : Dir => buffer c d)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => ws m c
    | ⟨2, _⟩ => res m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (xs m c) ∗ stg c cc0_stg1_0 (ws m c) ∗ stg c cc0_stg2_0 (res m c))

theorem sound_body (c : Dev nD) : bodyPre m ρ c ⊢ runs c (bodyProg (F := F)) fun _ => bodyPost m ρ c := by
  unfold bodyPre Φ₀ start G'
  iintro ⟨⟨⟨⟨%K, Hg⟩, Hc, Hlev⟩, Hb⟩, Ho, ⟨%d0, %g0, %hg0, Hx⟩, ⟨%d1, %g1, %hg1, Hw⟩, ⟨%d2, %g2, %hg2, Hout⟩⟩
  have hx : g0 = xs m c := by rw [hg0]; unfold Dat.before; rw [if_pos (fetch0_0 t0_0)]; rfl
  have hw : g1 = ws m c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  iapply (body_runs (xs m) (ws m c) K c g2 fun _ => bodyPost m ρ c)
  unfold bodyFrom
  isplitr []
  · isplitl [Hg]; · iexact Hg
    isplitl [Hc]; · iexact Hc
    isplitl [Hlev]; · iexact Hlev
    isplitl [Hb]; · iexact Hb
    isplitl [HO]; · iexists W; iexact HO
    unfold xPts wPts outPts
    isplitl [Hx]; · iexact Hx
    isplitl [Hw] <;> iassumption
  unfold bodyTo bodyPost Φ₁ Dat.owesAt Pipeline.owesWithin
  rw [out_eq, ← show res m c = outOf (xs m) (ws m c) c by unfold res; rfl, show (dats m ρ 0 c).owed t0_0.succ = 0 from rfl]
  iintro ⟨Hn, Hb, ⟨%W', HO⟩, Hx, Hw, Hout⟩
  isplitl [Hn Hb]
  · isplitl [Hn] <;> iassumption
  isplitl [HO]
  · iexists W'
    isplitr; · ipureintro; exact fun _ _ => Or.inl trivial
    iexact HO
  unfold xPts wPts outPts
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 40000 in
set_option maxHeartbeats 1600000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) xM (Memref.isWhole_whole _) wM (Memref.isWhole_whole _) oM (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  rw [body_eq]
  exact sound_body m ρ c

/-! ## The launch's side conditions -/

theorem dsem_scoped (k : Bool × Copy) : (osem k).isScoped .tc = true := by revert k; decide +kernel
theorem dsem_stage (k : Bool × Copy) (w : Fin cfg0.W) (s : Fin (cfg0.win w).nbuf) : osem k ≠ .dma ((cfg0.win w).sem s) := by
  revert k w s; decide +kernel
theorem ownSemFacts : Pipeline.OwnSemFacts cfg0.spec osem :=
  ⟨dsem_scoped, fun a b h => dsem_injective (by simpa [osem] using h), dsem_stage⟩

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf ringCells ringToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem buffers_rest (c : Dev nD) : (bigSep Finset.univ fun d : Dir => (buffer c d : sProp 𝕄)) = Pipeline.scopedRest cfg0.spec c := by
  rw [scopedRest0_eq, dirs]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← buffers_rest]
  unfold Φ₀
  iintro ⟨Hs, -, Hb⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← buffers_rest]
  unfold Φ₁
  rw [counters_eq]
  iintro ⟨⟨H1, H2⟩, Hb⟩
  isplitl [H1]; · iexact H1
  isplitl [H2] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun k h => dsem_stage k w s (congrArg SemLoc.dma h)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On sixteen devices, from any memory with zero counters, every weakly fair run ends, with every array as the pipeline's
    data say and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xs m)) (G' := G' (xs m)) (u₀ := u₀)
    (hu₀ := by
      unfold u₀
      iintro Hu
      ihave H := (ownU_pair _ _) $$ Hu
      icases H with ⟨HP, HX⟩
      imod (fund_ring (xs m)) $$ HX with HG
      imodintro
      isplitl [HP] <;> iassumption)
    (hglob := glob (xs m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem final_x (c : Dev nD) : finalA m ρ c (0 : Fin 3) = m ((c : Thread nD τ).loc main_arg0) :=
  (dats (F := F) m ρ 0 c).arrAt_in (0 : Fin 3) rfl _
theorem final_w (c : Dev nD) : finalA m ρ c (1 : Fin 3) = m ((c : Thread nD τ).loc main_arg1) :=
  (dats (F := F) m ρ 0 c).arrAt_in (1 : Fin 3) rfl _

/-- The one block of a window is the whole array. -/
theorem blk_x (j : S128x2048.Idx) : (win0_0.blk (0 : Fin 1)).view.emb j = j :=
  funext fun a => Fin.ext (by show 0 * _ + 1 * (j a).val = (j a).val; omega)
theorem blk_w (j : S2048x128.Idx) : (win0_1.blk (0 : Fin 1)).view.emb j = j :=
  funext fun a => Fin.ext (by show 0 * _ + 1 * (j a).val = (j a).val; omega)
theorem blk_out (t : Fin cfg0.N) (j : S2048x128.Idx) : ((cfg0.win 2).blk t).view.emb j = j :=
  funext fun a => Fin.ext (by show 0 * _ + 1 * (j a).val = (j a).val; omega)
theorem xs_eq (c : Dev nD) : xs m c = m ((c : Thread nD τ).loc main_arg0) := funext fun j => congrArg (m ((c : Thread nD τ).loc main_arg0)) (blk_x j)
theorem ws_eq (c : Dev nD) : ws m c = m ((c : Thread nD τ).loc main_arg1) := funext fun j => congrArg (m ((c : Thread nD τ).loc main_arg1)) (blk_w j)

theorem final_out (c : Dev nD) : finalA m ρ c (2 : Fin 3) = res m c := by
  refine (dats (F := F) m ρ 0 c).arrAt_eq_of_cover (2 : Fin 3) (res m c) (fun t _ => ?_) fun i => ⟨t0_0, flush0_2 _, ?_⟩
  · exact funext fun j => (congrArg (res m c) (blk_out t j)).symm
  · exact Finset.mem_map.mpr ⟨i, Finset.mem_univ _, blk_out t0_0 i⟩

/-- The run, told by the arrays' names. -/
theorem run : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = res m c) ∧ r.2.sem = fun _ => 0) :=
  (θ_run defs _ _).mono (fun r h => ⟨fun c => ⟨(h.1 c 0).trans (final_x m ρ c), (h.1 c 1).trans (final_w m ρ c), (h.1 c 2).trans (final_out m ρ c)⟩, h.2⟩)
    (run_main m ρ)

end Cert.KernelIdealProof

end
-- ==== Proof.KernelIdeal.Values.lean ====
/-
# The value of the result

Over the reals every multiplication writes rows of one product: of all the devices' blocks of the first argument, one below the
other, and the device's own block of the second. So each device's result is that product, which is its block of the product of
the whole arguments.
-/
module

public import proofs.«01_k».proof.Proof.KernelIdeal.Launch
public import proofs.«01_k».proof.Proof.Gen.ReferenceIdeal.Run
public import Idealize.ShloMosaic.Lib.Pointwise
public import Idealize.ShloMosaic.Lib.Layout
public import Idealize.ShloMosaic.PureOps.Ideal

@[expose] public section

noncomputable section

namespace Cert.KernelIdealProof

open Cert.KernelIdeal Cert.KernelIdeal.Gen Cert.AllGather
open Idealize.ShloMosaic Idealize.ShloMosaic.TcCoe

/-! ## What a multiplication computes -/

theorem pay_home (x : Vec Ideal S128x2048 .bf16) (w : Vec Ideal S2048x128 .bf16) (j : S128x128.Idx) :
    k0_pay1 (F := Ideal) x w j = ∑ k : Fin 2048, x (ix2 (j 0) k) * w (ix2 k (j 1)) := by
  pointwise [k0_pay1]
theorem pay_block (x : Vec Ideal S1x128x2048 .bf16) (w : Vec Ideal S2048x128 .bf16) (j : S128x128.Idx) :
    k0_pay2 (F := Ideal) x w j = ∑ k : Fin 2048, x (ix3 0 (j 0) k) * w (ix2 k (j 1)) := by
  pointwise [k0_pay2]
theorem pay_half_cw (x : Vec Ideal S1x64x2048 .bf16) (w : Vec Ideal S2048x128 .bf16) (j : S64x128.Idx) :
    k0_pay18 (F := Ideal) x w j = ∑ k : Fin 2048, x (ix3 0 (j 0) k) * w (ix2 k (j 1)) := by
  pointwise [k0_pay18]
theorem pay_half_ccw (x : Vec Ideal S1x64x2048 .bf16) (w : Vec Ideal S2048x128 .bf16) (j : S64x128.Idx) :
    k0_pay19 (F := Ideal) x w j = ∑ k : Fin 2048, x (ix3 0 (j 0) k) * w (ix2 k (j 1)) := by
  pointwise [k0_pay19]

/-! ## The product -/

variable (xs : Dev nD → XC Ideal) (w : WC Ideal) (c : Dev nD)

/-- Row `r` of the devices' blocks laid one below the other. -/
def row (r : Fin 2048) (k : Fin 2048) : EReal := xs ⟨r.val / 128, by have := r.isLt; show r.val / 128 < 16; omega⟩ (ix2 ⟨r.val % 128, Nat.mod_lt _ (by decide)⟩ k)

theorem row_eq (o : Dev nD) (a : Fin 128) (r : Fin 2048) (h : r.val = 128 * o.val + a.val) (k : Fin 2048) : row xs r k = xs o (ix2 a k) := by
  have ha : a.val < 128 := a.isLt
  have h1 : (⟨r.val / 128, by have := r.isLt; omega⟩ : Fin 16) = o := Fin.ext (by show r.val / 128 = o.val; omega)
  have h2 : (⟨r.val % 128, Nat.mod_lt _ (by decide)⟩ : Fin 128) = a := Fin.ext (by show r.val % 128 = a.val; omega)
  unfold row
  rw [h1, h2]

/-- Their product with the second block. -/
def gemm : OC Ideal := fun i => ∑ k : Fin 2048, row xs (i 0) k * w (ix2 k (i 1))

/-- A product of rows that are rows of the whole is rows of the whole product. -/
theorem gemm_at (i : S2048x128.Idx) (l : Fin 128) (hl : (i 1).val = l.val) (o : Dev nD) (a : Fin 128) (hr : (i 0).val = 128 * o.val + a.val)
    (x : Fin 2048 → EReal) (hx : ∀ k, x k = xs o (ix2 a k)) : (∑ k : Fin 2048, x k * w (ix2 k l)) = gemm xs w i := by
  unfold gemm
  refine Finset.sum_congr rfl fun k _ => ?_
  rw [hx, row_eq xs o a (i 0) hr k, show (i 1 : Fin 128) = l from Fin.ext hl]

/-- A place of a landing buffer. -/
theorem land_at (d : Dir) (i : S8x128x2048.Idx) (h : Fin 8) (a : Fin 128) (k : Fin 2048) (h0 : (i 0).val = h.val) (h1 : (i 1).val = a.val)
    (h2 : (i 2).val = k.val) : land xs c d i = xs (origin d c h) (ix2 a k) := by
  unfold land
  rw [show (i 0 : Fin 8) = h from Fin.ext h0, show (i 1 : Fin 128) = a from Fin.ext h1, show (i 2 : Fin 2048) = k from Fin.ext h2]
  exact congrArg (xs (origin d c h)) (funext fun b => by fin_cases b <;> rfl)

theorem write_home (f : OC Ideal) (i : S2048x128.Idx) (hi : i ∈ foot c .home) : outStep xs w c f .home i = gemm xs w i := by
  obtain ⟨j, rfl⟩ := (mem_rect (rHome c) i).mp hi
  refine (store_in (rHome c) f _ j).trans ((pay_home _ _ j).trans ?_)
  have h0 := off_home c 0
  have h1 := off_home c 1
  exact gemm_at xs w _ (j 1) (by show k0_off1 c 1 + 1 * (j 1).val = _; rw [h1]; simp) c (j 0)
    (by show k0_off1 c 0 + 1 * (j 0).val = _; rw [h0]; simp) _ fun k => rfl

theorem write_block (d : Dir) (h : Fin 7) (f : OC Ideal) (i : S2048x128.Idx) (hi : i ∈ foot c (.block d h)) :
    outStep xs w c f (.block d h) i = gemm xs w i := by
  obtain ⟨j, rfl⟩ := (mem_rect (rBlock c h d) i).mp hi
  cases d
  · refine (store_in (rBlock c h .cw) f _ j).trans ((pay_block _ _ j).trans ?_)
    have h0 := off_cw c h 0
    have h1 := off_cw c h 1
    exact gemm_at xs w _ (j 1) (by show k0_off2 c (BitVec.ofNat 32 h.val) 1 + 1 * (j 1).val = _; rw [h1]; simp) (origin .cw c (Fin.castLE (by decide) h)) (j 0)
      (by show k0_off2 c (BitVec.ofNat 32 h.val) 0 + 1 * (j 0).val = _; rw [h0]; simp) _ fun k => land_at xs c .cw _ _ (j 0) k
        (by show h.val + 1 * 0 = h.val; omega) (by show 0 + 1 * (j 0).val = (j 0).val; omega) (by show 0 + 1 * k.val = _; omega)
  · refine (store_in (rBlock c h .ccw) f _ j).trans ((pay_block _ _ j).trans ?_)
    have h0 := off_ccw c h 0
    have h1 := off_ccw c h 1
    exact gemm_at xs w _ (j 1) (by show k0_off3 c (BitVec.ofNat 32 h.val) 1 + 1 * (j 1).val = _; rw [h1]; simp) (origin .ccw c (Fin.castLE (by decide) h)) (j 0)
      (by show k0_off3 c (BitVec.ofNat 32 h.val) 0 + 1 * (j 0).val = _; rw [h0]; simp) _ fun k => land_at xs c .ccw _ _ (j 0) k
        (by show h.val + 1 * 0 = h.val; omega) (by show 0 + 1 * (j 0).val = (j 0).val; omega) (by show 0 + 1 * k.val = _; omega)

theorem write_half (d : Dir) (f : OC Ideal) (i : S2048x128.Idx) (hi : i ∈ foot c (.half d)) :
    outStep xs w c f (.half d) i = gemm xs w i := by
  obtain ⟨j, rfl⟩ := (mem_rect (rAnti c d) i).mp hi
  cases d
  · refine (store_in (rAnti c .cw) f _ j).trans ((pay_half_cw _ _ j).trans ?_)
    have h0 := off_half_cw c 0
    have h1 := off_half_cw c 1
    have hj : (j 0).val < 64 := (j 0).isLt
    exact gemm_at xs w _ (j 1) (by show k0_off4 c 1 + 1 * (j 1).val = _; rw [h1]; simp) (origin .cw c 7) ⟨(j 0).val, by omega⟩
      (by show k0_off4 c 0 + 1 * (j 0).val = _; rw [h0]; simp) _ fun k => land_at xs c .cw _ 7 ⟨(j 0).val, by omega⟩ k
        (by show 7 + 1 * 0 = 7; rfl) (by show 0 + 1 * (j 0).val = (j 0).val; omega) (by show 0 + 1 * k.val = _; omega)
  · refine (store_in (rAnti c .ccw) f _ j).trans ((pay_half_ccw _ _ j).trans ?_)
    have h0 := off_half_ccw c 0
    have h1 := off_half_ccw c 1
    have hj : (j 0).val < 64 := (j 0).isLt
    exact gemm_at xs w _ (j 1) (by show k0_off5 c 1 + 1 * (j 1).val = _; rw [h1]; simp) (origin .ccw c 7) ⟨64 + (j 0).val, by omega⟩
      (by show k0_off5 c 0 + 1 * (j 0).val = _; rw [h0]; simp; omega) _ fun k => land_at xs c .ccw _ 7 ⟨64 + (j 0).val, by omega⟩ k
        (by show 7 + 1 * 0 = 7; rfl) (by show 64 + 1 * (j 0).val = 64 + (j 0).val; omega) (by show 0 + 1 * k.val = _; omega)

theorem step_gemm (f : OC Ideal) (a : Act) (i : S2048x128.Idx) (h : i ∈ foot c a) : outStep xs w c f a i = gemm xs w i := by
  cases a with
  | send p => cases h
  | recv p => cases h
  | wait p => cases h
  | home => exact write_home xs w c f i h
  | block d k => exact write_block xs w c d k f i h
  | half d => exact write_half xs w c d f i h

theorem fold_gemm (i : S2048x128.Idx) (l : List Act) (f : OC Ideal) (h : f i = gemm xs w i ∨ ∃ a ∈ l, i ∈ foot c a) :
    l.foldl (outStep xs w c) f i = gemm xs w i := by
  induction l generalizing f with
  | nil =>
    rcases h with h | ⟨a, ha, -⟩
    · exact h
    · cases ha
  | cons a l ih =>
    refine ih _ ?_
    by_cases hi : i ∈ foot c a
    · exact Or.inl (step_gemm xs w c f a i hi)
    · rcases h with h | ⟨b, hb, hib⟩
      · exact Or.inl ((outStep_out xs w c f a i hi).trans h)
      · rcases List.mem_cons.mp hb with rfl | hb
        · exact absurd hib hi
        · exact Or.inr ⟨b, hb, hib⟩

/-- Device `c`'s result is the product. -/
theorem outOf_gemm : outOf xs w c = gemm xs w := by
  unfold outOf outAfter
  rw [List.take_of_length_le (Nat.le_of_eq acts_length)]
  exact funext fun i => fold_gemm xs w c i acts _ (Or.inr (foot_all c i))

/-! ## The reference -/

/-- What the reference ends with, of its two arguments. -/
def whole (X W : Cert.ReferenceIdeal.S2048x2048.Idx → EReal) : Cert.ReferenceIdeal.S2048x2048.Idx → EReal :=
  extf (F := Ideal) .f32 (truncf (F := Ideal) .bf16
    (Host.dotGeneral (F := Ideal) (φ₁ := .bf16) (φ₂ := .bf16) Cert.ReferenceIdeal.dot_S2048x2048_S2048x2048_S2048x2048_1_0_0_1_n_n none X W)
    Cert.ReferenceIdeal.Gen.bitsLt_bf16_f32) Cert.ReferenceIdeal.Gen.bitsLt_bf16_f32

theorem whole_apply (X W : Cert.ReferenceIdeal.S2048x2048.Idx → EReal) (i : Cert.ReferenceIdeal.S2048x2048.Idx) :
    whole X W i = ∑ k : Fin 2048, X (ix2 (i 0) k) * W (ix2 k (i 1)) := by
  pointwise [whole]

/-- The product of the blocks is the block of the product. -/
theorem gemm_block (X W : Cert.ReferenceIdeal.S2048x2048.Idx → EReal)
    (hx : ∀ o : Dev nD, xs o = Layout.block ⟨2, ![128, 2048]⟩ ⟨2, ![2048, 2048]⟩ 0 16 o X)
    (hw : w = Layout.block ⟨2, ![2048, 128]⟩ ⟨2, ![2048, 2048]⟩ 1 16 c W) :
    gemm xs w = Layout.block ⟨2, ![2048, 128]⟩ ⟨2, ![2048, 2048]⟩ 1 16 c (whole X W) := by
  funext i
  refine (Finset.sum_congr rfl fun k _ => ?_).trans (whole_apply X W _).symm
  have h0 : (i 0).val < 2048 := (i 0).isLt
  refine congrArg₂ (· * ·) ((congrFun (hx _) _).trans (congrArg X (funext fun b => Fin.ext ?_)))
    ((congrFun hw _).trans (congrArg W (funext fun b => Fin.ext ?_)))
  · match b with
    | ⟨0, _⟩ => show (i 0).val / 128 * 128 + (i 0).val % 128 = (i 0).val; omega
    | ⟨1, _⟩ => rfl
  · match b with
    | ⟨0, _⟩ => rfl
    | ⟨1, _⟩ => rfl

/-- From the blocks of two arguments, what device `c` ends with is its block of the reference's result. -/
theorem res_block (m : (ℓ : Loc nD τ sig) → Buf (Elt Ideal) ℓ) (c : Dev nD) (X W : Cert.ReferenceIdeal.S2048x2048.Idx → EReal)
    (hx : ∀ o : Dev nD, m ((o.tc : Thread nD τ).loc main_arg0) = Layout.block ⟨2, ![128, 2048]⟩ ⟨2, ![2048, 2048]⟩ 0 16 o X)
    (hw : m ((c.tc : Thread nD τ).loc main_arg1) = Layout.block ⟨2, ![2048, 128]⟩ ⟨2, ![2048, 2048]⟩ 1 16 c W) :
    res m c = Layout.block ⟨2, ![2048, 128]⟩ ⟨2, ![2048, 2048]⟩ 1 16 c (whole X W) := by
  unfold res
  rw [outOf_gemm]
  exact gemm_block _ _ c X W (fun o => (xs_eq m o).trans (hx o)) ((ws_eq m c).trans hw)

end Cert.KernelIdealProof

end
-- ==== Proof.lean ====
/-
# The claims

The kernel runs on bits and over the reals, and its counters end at zero; the reference runs; and over the reals every device's
result is its block of the reference's.
-/
module

public import proofs.«01_k».proof.Defs
public import proofs.«01_k».proof.Proof.Gen.ReferenceIdeal.Run
public import proofs.«01_k».proof.Proof.Kernel.Launch
public import proofs.«01_k».proof.Proof.KernelIdeal.Launch
public import proofs.«01_k».proof.Proof.KernelIdeal.Values
public import Idealize.ShloMosaic.Adequacy
public import Idealize.ShloMosaic.Init
public import Idealize.ShloMosaic.Lib.Quiescent

@[expose] public section

noncomputable section

namespace Cert.Proof

open Idealize.ShloMosaic Idealize.SL.Sem

theorem frame_kernel : Cert.quiescent_Kernel (hKernel := Cert.Kernel.Gen.facts) := fun m g _ =>
  (θ_run _ _ _).mono (fun _ h => ⟨fun c => ⟨(h.1 c).1, (h.1 c).2.1⟩, h.2⟩) (Cert.KernelProof.run m g)

theorem frame_kernelIdeal : Cert.quiescent_KernelIdeal (hKernelIdeal := Cert.KernelIdeal.Gen.facts) := fun m g _ =>
  (θ_run _ _ _).mono (fun _ h => ⟨fun c => ⟨(h.1 c).1, (h.1 c).2.1⟩, h.2⟩) (Cert.KernelIdealProof.run m g)

/-- The reference has no counter. -/
theorem frame_referenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run m g)

/-- The reference's result is the product of its arguments, of which every device's result is its block. -/
theorem algebraic : Cert.algebraic_KernelIdeal_ReferenceIdeal (hKernelIdeal := Cert.KernelIdeal.Gen.facts)
    (hReferenceIdeal := Cert.ReferenceIdeal.Gen.facts) := fun m g m' g' _ h =>
  ⟨Cert.KernelIdealProof.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ hr c => ⟨(hr.1 c).2.2.trans (Cert.KernelIdealProof.res_block m c _ _ (fun o => (h o).1) (h c).2), (hr.1 c).1, (hr.1 c).2.1⟩)
      (Cert.KernelIdealProof.run m g),
    (θ_run _ _ _).mono (fun _ hr => hr 0) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
